-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S1024x2048 .f32) (main_arg1 : FVec F S2048x16384 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  main_v8
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_

variable [Facts]

def fn {F : FTy → Type} [FloatOps F] (main_arg0 : FVec F S1024x2048 .f32) (main_arg1 : FVec F S2048x32768 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  main_v8
-- ==== Kernel.lean ====
abbrev S1024x2048 : Shape := ⟨2, ![1024, 2048]⟩
abbrev S2048x16384 : Shape := ⟨2, ![2048, 16384]⟩
abbrev S1024x16384 : Shape := ⟨2, ![1024, 16384]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S1024x32768 : Shape := ⟨2, ![1024, 32768]⟩
abbrev S2x64x16384 : Shape := ⟨3, ![2, 64, 16384]⟩
abbrev S4x64x16384 : Shape := ⟨3, ![4, 64, 16384]⟩
abbrev S2 : Shape := ⟨1, ![2]⟩
abbrev S4 : Shape := ⟨1, ![4]⟩
abbrev S1 : Shape := ⟨1, ![1]⟩
abbrev S1x64x16384 : Shape := ⟨3, ![1, 64, 16384]⟩
abbrev S64x16384 : Shape := ⟨2, ![64, 16384]⟩
abbrev S64x1 : Shape := ⟨2, ![64, 1]⟩

abbrev nBuf : Space → Nat
  | .hbm => 28
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x16384, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x16384, .f32⟩
  | .hbm, ⟨7, _⟩ => ⟨S1024x16384, .f32⟩
  | .hbm, ⟨8, _⟩ => ⟨S1024x16384, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x2, .f32⟩
  | .hbm, ⟨13, _⟩ => ⟨S1024x2, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x32768, .f32⟩
  | .local _ .vmem, ⟨0, _⟩ => ⟨S1024x2, .f32⟩
  | .local _ .vmem, ⟨1, _⟩ => ⟨S1024x2, .f32⟩
  | .local _ .vmem, ⟨2, _⟩ => ⟨S1024x1, .f32⟩
  | .local _ .vmem, ⟨3, _⟩ => ⟨S1024x1, .f32⟩
  | .local _ .vmem, ⟨4, _⟩ => ⟨S2x64x16384, .f32⟩
  | .local _ .vmem, ⟨5, _⟩ => ⟨S4x64x16384, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => false
  | ⟨1, _⟩ => true
  | ⟨2, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 3 17 bufScoped semScoped dmaSemScoped tileCredit tileCredit_eq_zero tileCredit_pos).withBarriers [(0, 0), (1, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_1 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_scratch0 : Ref sig .tc := ⟨.vmem, 4, rfl⟩
abbrev cc1_scratch1 : Ref sig .tc := ⟨.vmem, 5, rfl⟩
abbrev cc0_sem0_0 : DmaSem sig := 0
abbrev cc0_sem1_0 : DmaSem sig := 1
abbrev cc1_sem0_0 : DmaSem sig := 4
abbrev cc1_sem1_0 : DmaSem sig := 5
abbrev barrier0 : Sem sig := 0
abbrev barrier1 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_8 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32_8 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_9 : BitVec 32 := 1#32
  let v14 : BitVec 32 := Scalar.muli v6 c1_i32_9
  let v15 : BitVec 32 := Scalar.addi v13 v14
  v15.toNat
abbrev stage0_0 : Fin 1 → Memref sig .tc .vmem S1024x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k1_dev2 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v36 : BitVec 32 := Scalar.muli v2 c2_i32_32
  let v37 : BitVec 32 := Scalar.addi c0_i32_33 v36
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_34 : BitVec 32 := 1#32
  let v38 : BitVec 32 := Scalar.muli v6 c1_i32_34
  let v39 : BitVec 32 := Scalar.addi v37 v38
  v39.toNat
def k1_off1 (d0 : Dev nD) : Fin 2 → Nat :=
  let c0_i32_41 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v48 : BitVec 32 := Scalar.muli v5 c16384_i32
  ![0, v48.toNat]
def k1_dev3 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v78 : BitVec 32 := Scalar.muli v2 c2_i32_67
  let v79 : BitVec 32 := Scalar.addi c0_i32_68 v78
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v80 : BitVec 32 := Scalar.muli v6 c1_i32_69
  let v81 : BitVec 32 := Scalar.addi v79 v80
  v81.toNat
def k1_off2 (d0 : Dev nD) : Fin 2 → Nat :=
  let c64_i32_77 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_74 : BitVec 32 := 16384#32
  let v90 : BitVec 32 := Scalar.muli v5 c16384_i32_74
  ![64, v90.toNat]
def k1_dev4 (d0 : Dev nD) : Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_118 : BitVec 32 := 2#32
  let v131 : BitVec 32 := Scalar.muli v2 c2_i32_118
  let v132 : BitVec 32 := Scalar.addi c0_i32_119 v131
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_120 : BitVec 32 := 1#32
  let v133 : BitVec 32 := Scalar.muli v6 c1_i32_120
  let v134 : BitVec 32 := Scalar.addi v132 v133
  v134.toNat
def k1_off3 (d0 : Dev nD) : Fin 2 → Nat :=
  let c128_i32_128 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_125 : BitVec 32 := 16384#32
  let v143 : BitVec 32 := Scalar.muli v5 c16384_i32_125
  ![128, v143.toNat]
def k1_dev5 (d0 : Dev nD) : Nat :=
  let c0_i32_169 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_168 : BitVec 32 := 2#32
  let v184 : BitVec 32 := Scalar.muli v2 c2_i32_168
  let v185 : BitVec 32 := Scalar.addi c0_i32_169 v184
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_170 : BitVec 32 := 1#32
  let v186 : BitVec 32 := Scalar.muli v6 c1_i32_170
  let v187 : BitVec 32 := Scalar.addi v185 v186
  v187.toNat
def k1_off4 (d0 : Dev nD) : Fin 2 → Nat :=
  let c192_i32_178 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_175 : BitVec 32 := 16384#32
  let v196 : BitVec 32 := Scalar.muli v5 c16384_i32_175
  ![192, v196.toNat]
def k1_off5 (d0 : Dev nD) : Fin 2 → Nat :=
  let c0_i32_195 : BitVec 32 := 0#32
  let c1_i32_192 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v212 : BitVec 32 := Scalar.subi c1_i32_192 v5
  let c16384_i32_193 : BitVec 32 := 16384#32
  let v213 : BitVec 32 := Scalar.muli v212 c16384_i32_193
  ![0, v213.toNat]
def k1_dev6 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v220 : BitVec 32 := Scalar.muli v2 c2_i32_203
  let v221 : BitVec 32 := Scalar.addi c0_i32_204 v220
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_205 : BitVec 32 := 1#32
  let v222 : BitVec 32 := Scalar.muli v6 c1_i32_205
  let v223 : BitVec 32 := Scalar.addi v221 v222
  v223.toNat
def k1_dev7 (d0 : Dev nD) : Nat :=
  let c0_i32_247 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_246 : BitVec 32 := 2#32
  let v259 : BitVec 32 := Scalar.muli v2 c2_i32_246
  let v260 : BitVec 32 := Scalar.addi c0_i32_247 v259
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_248 : BitVec 32 := 1#32
  let v261 : BitVec 32 := Scalar.muli v6 c1_i32_248
  let v262 : BitVec 32 := Scalar.addi v260 v261
  v262.toNat
def k1_off6 (d0 : Dev nD) : Fin 2 → Nat :=
  let c256_i32_256 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_253 : BitVec 32 := 16384#32
  let v271 : BitVec 32 := Scalar.muli v5 c16384_i32_253
  ![256, v271.toNat]
def k1_off7 (d0 : Dev nD) : Fin 2 → Nat :=
  let c64_i32_273 : BitVec 32 := 64#32
  let c1_i32_270 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v287 : BitVec 32 := Scalar.subi c1_i32_270 v5
  let c16384_i32_271 : BitVec 32 := 16384#32
  let v288 : BitVec 32 := Scalar.muli v287 c16384_i32_271
  ![64, v288.toNat]
def k1_dev8 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v295 : BitVec 32 := Scalar.muli v2 c2_i32_281
  let v296 : BitVec 32 := Scalar.addi c0_i32_282 v295
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v297 : BitVec 32 := Scalar.muli v6 c1_i32_283
  let v298 : BitVec 32 := Scalar.addi v296 v297
  v298.toNat
def k1_dev9 (d0 : Dev nD) : Nat :=
  let c0_i32_325 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_324 : BitVec 32 := 2#32
  let v334 : BitVec 32 := Scalar.muli v2 c2_i32_324
  let v335 : BitVec 32 := Scalar.addi c0_i32_325 v334
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_326 : BitVec 32 := 1#32
  let v336 : BitVec 32 := Scalar.muli v6 c1_i32_326
  let v337 : BitVec 32 := Scalar.addi v335 v336
  v337.toNat
def k1_off8 (d0 : Dev nD) : Fin 2 → Nat :=
  let c320_i32_334 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_331 : BitVec 32 := 16384#32
  let v346 : BitVec 32 := Scalar.muli v5 c16384_i32_331
  ![320, v346.toNat]
def k1_off9 (d0 : Dev nD) : Fin 2 → Nat :=
  let c128_i32_351 : BitVec 32 := 128#32
  let c1_i32_348 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v362 : BitVec 32 := Scalar.subi c1_i32_348 v5
  let c16384_i32_349 : BitVec 32 := 16384#32
  let v363 : BitVec 32 := Scalar.muli v362 c16384_i32_349
  ![128, v363.toNat]
def k1_dev10 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v370 : BitVec 32 := Scalar.muli v2 c2_i32_359
  let v371 : BitVec 32 := Scalar.addi c0_i32_360 v370
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_361 : BitVec 32 := 1#32
  let v372 : BitVec 32 := Scalar.muli v6 c1_i32_361
  let v373 : BitVec 32 := Scalar.addi v371 v372
  v373.toNat
def k1_dev11 (d0 : Dev nD) : Nat :=
  let c0_i32_403 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_402 : BitVec 32 := 2#32
  let v409 : BitVec 32 := Scalar.muli v2 c2_i32_402
  let v410 : BitVec 32 := Scalar.addi c0_i32_403 v409
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_404 : BitVec 32 := 1#32
  let v411 : BitVec 32 := Scalar.muli v6 c1_i32_404
  let v412 : BitVec 32 := Scalar.addi v410 v411
  v412.toNat
def k1_off10 (d0 : Dev nD) : Fin 2 → Nat :=
  let c384_i32_412 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_409 : BitVec 32 := 16384#32
  let v421 : BitVec 32 := Scalar.muli v5 c16384_i32_409
  ![384, v421.toNat]
def k1_off11 (d0 : Dev nD) : Fin 2 → Nat :=
  let c192_i32_429 : BitVec 32 := 192#32
  let c1_i32_426 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v437 : BitVec 32 := Scalar.subi c1_i32_426 v5
  let c16384_i32_427 : BitVec 32 := 16384#32
  let v438 : BitVec 32 := Scalar.muli v437 c16384_i32_427
  ![192, v438.toNat]
def k1_dev12 (d0 : Dev nD) : Nat :=
  let c0_i32_438 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_437 : BitVec 32 := 2#32
  let v445 : BitVec 32 := Scalar.muli v2 c2_i32_437
  let v446 : BitVec 32 := Scalar.addi c0_i32_438 v445
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_439 : BitVec 32 := 1#32
  let v447 : BitVec 32 := Scalar.muli v6 c1_i32_439
  let v448 : BitVec 32 := Scalar.addi v446 v447
  v448.toNat
def k1_dev13 (d0 : Dev nD) : Nat :=
  let c0_i32_481 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_480 : BitVec 32 := 2#32
  let v484 : BitVec 32 := Scalar.muli v2 c2_i32_480
  let v485 : BitVec 32 := Scalar.addi c0_i32_481 v484
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_482 : BitVec 32 := 1#32
  let v486 : BitVec 32 := Scalar.muli v6 c1_i32_482
  let v487 : BitVec 32 := Scalar.addi v485 v486
  v487.toNat
def k1_off12 (d0 : Dev nD) : Fin 2 → Nat :=
  let c448_i32_490 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_487 : BitVec 32 := 16384#32
  let v496 : BitVec 32 := Scalar.muli v5 c16384_i32_487
  ![448, v496.toNat]
def k1_off13 (d0 : Dev nD) : Fin 2 → Nat :=
  let c256_i32_507 : BitVec 32 := 256#32
  let c1_i32_504 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v512 : BitVec 32 := Scalar.subi c1_i32_504 v5
  let c16384_i32_505 : BitVec 32 := 16384#32
  let v513 : BitVec 32 := Scalar.muli v512 c16384_i32_505
  ![256, v513.toNat]
def k1_dev14 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v520 : BitVec 32 := Scalar.muli v2 c2_i32_515
  let v521 : BitVec 32 := Scalar.addi c0_i32_516 v520
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_517 : BitVec 32 := 1#32
  let v522 : BitVec 32 := Scalar.muli v6 c1_i32_517
  let v523 : BitVec 32 := Scalar.addi v521 v522
  v523.toNat
def k1_dev15 (d0 : Dev nD) : Nat :=
  let c0_i32_559 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_558 : BitVec 32 := 2#32
  let v559 : BitVec 32 := Scalar.muli v2 c2_i32_558
  let v560 : BitVec 32 := Scalar.addi c0_i32_559 v559
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_560 : BitVec 32 := 1#32
  let v561 : BitVec 32 := Scalar.muli v6 c1_i32_560
  let v562 : BitVec 32 := Scalar.addi v560 v561
  v562.toNat
def k1_off14 (d0 : Dev nD) : Fin 2 → Nat :=
  let c512_i32_568 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_565 : BitVec 32 := 16384#32
  let v571 : BitVec 32 := Scalar.muli v5 c16384_i32_565
  ![512, v571.toNat]
def k1_off15 (d0 : Dev nD) : Fin 2 → Nat :=
  let c320_i32_585 : BitVec 32 := 320#32
  let c1_i32_582 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v587 : BitVec 32 := Scalar.subi c1_i32_582 v5
  let c16384_i32_583 : BitVec 32 := 16384#32
  let v588 : BitVec 32 := Scalar.muli v587 c16384_i32_583
  ![320, v588.toNat]
def k1_dev16 (d0 : Dev nD) : Nat :=
  let c0_i32_594 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_593 : BitVec 32 := 2#32
  let v595 : BitVec 32 := Scalar.muli v2 c2_i32_593
  let v596 : BitVec 32 := Scalar.addi c0_i32_594 v595
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_595 : BitVec 32 := 1#32
  let v597 : BitVec 32 := Scalar.muli v6 c1_i32_595
  let v598 : BitVec 32 := Scalar.addi v596 v597
  v598.toNat
def k1_dev17 (d0 : Dev nD) : Nat :=
  let c0_i32_637 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_636 : BitVec 32 := 2#32
  let v634 : BitVec 32 := Scalar.muli v2 c2_i32_636
  let v635 : BitVec 32 := Scalar.addi c0_i32_637 v634
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_638 : BitVec 32 := 1#32
  let v636 : BitVec 32 := Scalar.muli v6 c1_i32_638
  let v637 : BitVec 32 := Scalar.addi v635 v636
  v637.toNat
def k1_off16 (d0 : Dev nD) : Fin 2 → Nat :=
  let c576_i32_646 : BitVec 32 := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_643 : BitVec 32 := 16384#32
  let v646 : BitVec 32 := Scalar.muli v5 c16384_i32_643
  ![576, v646.toNat]
def k1_off17 (d0 : Dev nD) : Fin 2 → Nat :=
  let c384_i32_663 : BitVec 32 := 384#32
  let c1_i32_660 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v662 : BitVec 32 := Scalar.subi c1_i32_660 v5
  let c16384_i32_661 : BitVec 32 := 16384#32
  let v663 : BitVec 32 := Scalar.muli v662 c16384_i32_661
  ![384, v663.toNat]
def k1_dev18 (d0 : Dev nD) : Nat :=
  let c0_i32_672 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_671 : BitVec 32 := 2#32
  let v670 : BitVec 32 := Scalar.muli v2 c2_i32_671
  let v671 : BitVec 32 := Scalar.addi c0_i32_672 v670
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_673 : BitVec 32 := 1#32
  let v672 : BitVec 32 := Scalar.muli v6 c1_i32_673
  let v673 : BitVec 32 := Scalar.addi v671 v672
  v673.toNat
def k1_dev19 (d0 : Dev nD) : Nat :=
  let c0_i32_715 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_714 : BitVec 32 := 2#32
  let v709 : BitVec 32 := Scalar.muli v2 c2_i32_714
  let v710 : BitVec 32 := Scalar.addi c0_i32_715 v709
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_716 : BitVec 32 := 1#32
  let v711 : BitVec 32 := Scalar.muli v6 c1_i32_716
  let v712 : BitVec 32 := Scalar.addi v710 v711
  v712.toNat
def k1_off18 (d0 : Dev nD) : Fin 2 → Nat :=
  let c640_i32_724 : BitVec 32 := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_721 : BitVec 32 := 16384#32
  let v721 : BitVec 32 := Scalar.muli v5 c16384_i32_721
  ![640, v721.toNat]
def k1_off19 (d0 : Dev nD) : Fin 2 → Nat :=
  let c448_i32_741 : BitVec 32 := 448#32
  let c1_i32_738 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v737 : BitVec 32 := Scalar.subi c1_i32_738 v5
  let c16384_i32_739 : BitVec 32 := 16384#32
  let v738 : BitVec 32 := Scalar.muli v737 c16384_i32_739
  ![448, v738.toNat]
def k1_dev20 (d0 : Dev nD) : Nat :=
  let c0_i32_750 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_749 : BitVec 32 := 2#32
  let v745 : BitVec 32 := Scalar.muli v2 c2_i32_749
  let v746 : BitVec 32 := Scalar.addi c0_i32_750 v745
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_751 : BitVec 32 := 1#32
  let v747 : BitVec 32 := Scalar.muli v6 c1_i32_751
  let v748 : BitVec 32 := Scalar.addi v746 v747
  v748.toNat
def k1_dev21 (d0 : Dev nD) : Nat :=
  let c0_i32_793 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_792 : BitVec 32 := 2#32
  let v784 : BitVec 32 := Scalar.muli v2 c2_i32_792
  let v785 : BitVec 32 := Scalar.addi c0_i32_793 v784
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_794 : BitVec 32 := 1#32
  let v786 : BitVec 32 := Scalar.muli v6 c1_i32_794
  let v787 : BitVec 32 := Scalar.addi v785 v786
  v787.toNat
def k1_off20 (d0 : Dev nD) : Fin 2 → Nat :=
  let c704_i32_802 : BitVec 32 := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_799 : BitVec 32 := 16384#32
  let v796 : BitVec 32 := Scalar.muli v5 c16384_i32_799
  ![704, v796.toNat]
def k1_off21 (d0 : Dev nD) : Fin 2 → Nat :=
  let c512_i32_819 : BitVec 32 := 512#32
  let c1_i32_816 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v812 : BitVec 32 := Scalar.subi c1_i32_816 v5
  let c16384_i32_817 : BitVec 32 := 16384#32
  let v813 : BitVec 32 := Scalar.muli v812 c16384_i32_817
  ![512, v813.toNat]
def k1_dev22 (d0 : Dev nD) : Nat :=
  let c0_i32_828 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_827 : BitVec 32 := 2#32
  let v820 : BitVec 32 := Scalar.muli v2 c2_i32_827
  let v821 : BitVec 32 := Scalar.addi c0_i32_828 v820
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_829 : BitVec 32 := 1#32
  let v822 : BitVec 32 := Scalar.muli v6 c1_i32_829
  let v823 : BitVec 32 := Scalar.addi v821 v822
  v823.toNat
def k1_dev23 (d0 : Dev nD) : Nat :=
  let c0_i32_871 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_870 : BitVec 32 := 2#32
  let v859 : BitVec 32 := Scalar.muli v2 c2_i32_870
  let v860 : BitVec 32 := Scalar.addi c0_i32_871 v859
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_872 : BitVec 32 := 1#32
  let v861 : BitVec 32 := Scalar.muli v6 c1_i32_872
  let v862 : BitVec 32 := Scalar.addi v860 v861
  v862.toNat
def k1_off22 (d0 : Dev nD) : Fin 2 → Nat :=
  let c768_i32_880 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_877 : BitVec 32 := 16384#32
  let v871 : BitVec 32 := Scalar.muli v5 c16384_i32_877
  ![768, v871.toNat]
def k1_off23 (d0 : Dev nD) : Fin 2 → Nat :=
  let c576_i32_897 : BitVec 32 := 576#32
  let c1_i32_894 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v887 : BitVec 32 := Scalar.subi c1_i32_894 v5
  let c16384_i32_895 : BitVec 32 := 16384#32
  let v888 : BitVec 32 := Scalar.muli v887 c16384_i32_895
  ![576, v888.toNat]
def k1_dev24 (d0 : Dev nD) : Nat :=
  let c0_i32_906 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_905 : BitVec 32 := 2#32
  let v895 : BitVec 32 := Scalar.muli v2 c2_i32_905
  let v896 : BitVec 32 := Scalar.addi c0_i32_906 v895
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_907 : BitVec 32 := 1#32
  let v897 : BitVec 32 := Scalar.muli v6 c1_i32_907
  let v898 : BitVec 32 := Scalar.addi v896 v897
  v898.toNat
def k1_dev25 (d0 : Dev nD) : Nat :=
  let c0_i32_949 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_948 : BitVec 32 := 2#32
  let v934 : BitVec 32 := Scalar.muli v2 c2_i32_948
  let v935 : BitVec 32 := Scalar.addi c0_i32_949 v934
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_950 : BitVec 32 := 1#32
  let v936 : BitVec 32 := Scalar.muli v6 c1_i32_950
  let v937 : BitVec 32 := Scalar.addi v935 v936
  v937.toNat
def k1_off24 (d0 : Dev nD) : Fin 2 → Nat :=
  let c832_i32_958 : BitVec 32 := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_955 : BitVec 32 := 16384#32
  let v946 : BitVec 32 := Scalar.muli v5 c16384_i32_955
  ![832, v946.toNat]
def k1_off25 (d0 : Dev nD) : Fin 2 → Nat :=
  let c640_i32_975 : BitVec 32 := 640#32
  let c1_i32_972 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v962 : BitVec 32 := Scalar.subi c1_i32_972 v5
  let c16384_i32_973 : BitVec 32 := 16384#32
  let v963 : BitVec 32 := Scalar.muli v962 c16384_i32_973
  ![640, v963.toNat]
def k1_dev26 (d0 : Dev nD) : Nat :=
  let c0_i32_984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_983 : BitVec 32 := 2#32
  let v970 : BitVec 32 := Scalar.muli v2 c2_i32_983
  let v971 : BitVec 32 := Scalar.addi c0_i32_984 v970
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_985 : BitVec 32 := 1#32
  let v972 : BitVec 32 := Scalar.muli v6 c1_i32_985
  let v973 : BitVec 32 := Scalar.addi v971 v972
  v973.toNat
def k1_dev27 (d0 : Dev nD) : Nat :=
  let c0_i32_1027 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1026 : BitVec 32 := 2#32
  let v1009 : BitVec 32 := Scalar.muli v2 c2_i32_1026
  let v1010 : BitVec 32 := Scalar.addi c0_i32_1027 v1009
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1028 : BitVec 32 := 1#32
  let v1011 : BitVec 32 := Scalar.muli v6 c1_i32_1028
  let v1012 : BitVec 32 := Scalar.addi v1010 v1011
  v1012.toNat
def k1_off26 (d0 : Dev nD) : Fin 2 → Nat :=
  let c896_i32_1036 : BitVec 32 := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_1033 : BitVec 32 := 16384#32
  let v1021 : BitVec 32 := Scalar.muli v5 c16384_i32_1033
  ![896, v1021.toNat]
def k1_off27 (d0 : Dev nD) : Fin 2 → Nat :=
  let c704_i32_1053 : BitVec 32 := 704#32
  let c1_i32_1050 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1037 : BitVec 32 := Scalar.subi c1_i32_1050 v5
  let c16384_i32_1051 : BitVec 32 := 16384#32
  let v1038 : BitVec 32 := Scalar.muli v1037 c16384_i32_1051
  ![704, v1038.toNat]
def k1_dev28 (d0 : Dev nD) : Nat :=
  let c0_i32_1062 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1061 : BitVec 32 := 2#32
  let v1045 : BitVec 32 := Scalar.muli v2 c2_i32_1061
  let v1046 : BitVec 32 := Scalar.addi c0_i32_1062 v1045
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1063 : BitVec 32 := 1#32
  let v1047 : BitVec 32 := Scalar.muli v6 c1_i32_1063
  let v1048 : BitVec 32 := Scalar.addi v1046 v1047
  v1048.toNat
def k1_dev29 (d0 : Dev nD) : Nat :=
  let c0_i32_1105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1104 : BitVec 32 := 2#32
  let v1084 : BitVec 32 := Scalar.muli v2 c2_i32_1104
  let v1085 : BitVec 32 := Scalar.addi c0_i32_1105 v1084
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1106 : BitVec 32 := 1#32
  let v1086 : BitVec 32 := Scalar.muli v6 c1_i32_1106
  let v1087 : BitVec 32 := Scalar.addi v1085 v1086
  v1087.toNat
def k1_off28 (d0 : Dev nD) : Fin 2 → Nat :=
  let c960_i32_1114 : BitVec 32 := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_1111 : BitVec 32 := 16384#32
  let v1096 : BitVec 32 := Scalar.muli v5 c16384_i32_1111
  ![960, v1096.toNat]
def k1_off29 (d0 : Dev nD) : Fin 2 → Nat :=
  let c768_i32_1131 : BitVec 32 := 768#32
  let c1_i32_1128 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1112 : BitVec 32 := Scalar.subi c1_i32_1128 v5
  let c16384_i32_1129 : BitVec 32 := 16384#32
  let v1113 : BitVec 32 := Scalar.muli v1112 c16384_i32_1129
  ![768, v1113.toNat]
def k1_dev30 (d0 : Dev nD) : Nat :=
  let c0_i32_1140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1139 : BitVec 32 := 2#32
  let v1120 : BitVec 32 := Scalar.muli v2 c2_i32_1139
  let v1121 : BitVec 32 := Scalar.addi c0_i32_1140 v1120
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1141 : BitVec 32 := 1#32
  let v1122 : BitVec 32 := Scalar.muli v6 c1_i32_1141
  let v1123 : BitVec 32 := Scalar.addi v1121 v1122
  v1123.toNat
def k1_off30 (d0 : Dev nD) : Fin 2 → Nat :=
  let c832_i32_1156 : BitVec 32 := 832#32
  let c1_i32_1153 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1134 : BitVec 32 := Scalar.subi c1_i32_1153 v5
  let c16384_i32_1154 : BitVec 32 := 16384#32
  let v1135 : BitVec 32 := Scalar.muli v1134 c16384_i32_1154
  ![832, v1135.toNat]
def k1_dev31 (d0 : Dev nD) : Nat :=
  let c0_i32_1165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1164 : BitVec 32 := 2#32
  let v1142 : BitVec 32 := Scalar.muli v2 c2_i32_1164
  let v1143 : BitVec 32 := Scalar.addi c0_i32_1165 v1142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1166 : BitVec 32 := 1#32
  let v1144 : BitVec 32 := Scalar.muli v6 c1_i32_1166
  let v1145 : BitVec 32 := Scalar.addi v1143 v1144
  v1145.toNat
def k1_off31 (d0 : Dev nD) : Fin 2 → Nat :=
  let c896_i32_1181 : BitVec 32 := 896#32
  let c1_i32_1178 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1156 : BitVec 32 := Scalar.subi c1_i32_1178 v5
  let c16384_i32_1179 : BitVec 32 := 16384#32
  let v1157 : BitVec 32 := Scalar.muli v1156 c16384_i32_1179
  ![896, v1157.toNat]
def k1_dev32 (d0 : Dev nD) : Nat :=
  let c0_i32_1190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1189 : BitVec 32 := 2#32
  let v1164 : BitVec 32 := Scalar.muli v2 c2_i32_1189
  let v1165 : BitVec 32 := Scalar.addi c0_i32_1190 v1164
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1191 : BitVec 32 := 1#32
  let v1166 : BitVec 32 := Scalar.muli v6 c1_i32_1191
  let v1167 : BitVec 32 := Scalar.addi v1165 v1166
  v1167.toNat
def k1_off32 (d0 : Dev nD) : Fin 2 → Nat :=
  let c960_i32_1206 : BitVec 32 := 960#32
  let c1_i32_1203 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1178 : BitVec 32 := Scalar.subi c1_i32_1203 v5
  let c16384_i32_1204 : BitVec 32 := 16384#32
  let v1179 : BitVec 32 := Scalar.muli v1178 c16384_i32_1204
  ![960, v1179.toNat]
def k1_dev33 (d0 : Dev nD) : Nat :=
  let c0_i32_1215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1214 : BitVec 32 := 2#32
  let v1186 : BitVec 32 := Scalar.muli v2 c2_i32_1214
  let v1187 : BitVec 32 := Scalar.addi c0_i32_1215 v1186
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1216 : BitVec 32 := 1#32
  let v1188 : BitVec 32 := Scalar.muli v6 c1_i32_1216
  let v1189 : BitVec 32 := Scalar.addi v1187 v1188
  v1189.toNat
abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x32768, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x32768, .f32⟩
  | .hbm, ⟨13, _⟩ => ⟨S1024x32768, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Halves.lean ====
module

public import proofs.«01_k».proof.Proof.Gen.KernelIdeal.Skeleton
public import proofs.«01_k».proof.Proof.Gen.KernelIdeal.Points
public import proofs.«01_k».proof.Proof.Gen.KernelIdeal.Launch

@[expose] public section

noncomputable section

/-! The body of the second call as a list of sixteen chunks' steps. -/

namespace Cert.KernelIdeal.Halves

open Idealize.ShloMosaic Idealize.SL.Sem Cert.KernelIdeal.Gen

variable {F : FTy → Type} [FloatOps F]

/-- Where the device's own half of chunk `k` starts in the result. -/
def ownOff (k : ℕ) : Dev nD → (Fin 2 → ℕ) :=
  match k with
  | 0 => k1_off1
  | 1 => k1_off2
  | 2 => k1_off3
  | 3 => k1_off4
  | 4 => k1_off6
  | 5 => k1_off8
  | 6 => k1_off10
  | 7 => k1_off12
  | 8 => k1_off14
  | 9 => k1_off16
  | 10 => k1_off18
  | 11 => k1_off20
  | 12 => k1_off22
  | 13 => k1_off24
  | 14 => k1_off26
  | _ => k1_off28

/-- Where the peer's half of chunk `k` starts in the result. -/
def peerOff (k : ℕ) : Dev nD → (Fin 2 → ℕ) :=
  match k with
  | 0 => k1_off5
  | 1 => k1_off7
  | 2 => k1_off9
  | 3 => k1_off11
  | 4 => k1_off13
  | 5 => k1_off15
  | 6 => k1_off17
  | 7 => k1_off19
  | 8 => k1_off21
  | 9 => k1_off23
  | 10 => k1_off25
  | 11 => k1_off27
  | 12 => k1_off29
  | 13 => k1_off30
  | 14 => k1_off31
  | _ => k1_off32

/-- The device chunk `k` is sent to. -/
def sendDev (k : ℕ) : Dev nD → ℕ :=
  match k with
  | 0 => k1_dev2
  | 1 => k1_dev3
  | 2 => k1_dev4
  | 3 => k1_dev5
  | 4 => k1_dev7
  | 5 => k1_dev9
  | 6 => k1_dev11
  | 7 => k1_dev13
  | 8 => k1_dev15
  | 9 => k1_dev17
  | 10 => k1_dev19
  | 11 => k1_dev21
  | 12 => k1_dev23
  | 13 => k1_dev25
  | 14 => k1_dev27
  | _ => k1_dev29

/-- The device the credit for chunk `k` is sent to. -/
def credDev (k : ℕ) : Dev nD → ℕ :=
  match k with
  | 0 => k1_dev6
  | 1 => k1_dev8
  | 2 => k1_dev10
  | 3 => k1_dev12
  | 4 => k1_dev14
  | 5 => k1_dev16
  | 6 => k1_dev18
  | 7 => k1_dev20
  | 8 => k1_dev22
  | 9 => k1_dev24
  | 10 => k1_dev26
  | 11 => k1_dev28
  | 12 => k1_dev30
  | 13 => k1_dev31
  | 14 => k1_dev32
  | _ => k1_dev33

theorem ownOff_eq (k : ℕ) (hk : k < 16) (d : Dev nD) : ownOff k d = ![64 * k, 16384 * (d.val % 2)] := by
  revert k hk d; decide +kernel

theorem peerOff_eq (k : ℕ) (hk : k < 16) (d : Dev nD) : peerOff k d = ![64 * k, 16384 - 16384 * (d.val % 2)] := by
  revert k hk d; decide +kernel

theorem sendDev_eq (k : ℕ) (d : Dev nD) : sendDev k d = (2 * (d.val / 2) + 1) - d.val % 2 := by
  unfold sendDev; split <;> revert d <;> decide +kernel

theorem credDev_eq (k : ℕ) (d : Dev nD) : credDev k d = (2 * (d.val / 2) + 1) - d.val % 2 := by
  unfold credDev; split <;> revert d <;> decide +kernel

theorem sendDev_lt (k : ℕ) (d : Dev nD) : sendDev k d < nD := by
  rw [sendDev_eq]; revert d; decide +kernel

theorem credDev_lt (k : ℕ) (d : Dev nD) : credDev k d < nD := by
  rw [credDev_eq]; revert d; decide +kernel

theorem rows_inb (k : ℕ) (hk : k < 16) : ∀ a, (![64 * k, 0] : Fin 2 → ℕ) a + S64x16384.size a ≤ S1024x16384.size a := by
  revert k hk; decide +kernel

theorem stat_inb (k : ℕ) (hk : k < 16) : ∀ a, (![64 * k, 0] : Fin 2 → ℕ) a + S64x1.size a ≤ S1024x1.size a := by
  revert k hk; decide +kernel

theorem two_inb (k : ℕ) : ∀ a, (![k % 2, 0, 0] : Fin 3 → ℕ) a + S1x64x16384.size a ≤ S2x64x16384.size a := by
  have h : k % 2 < 2 := Nat.mod_lt _ (by decide)
  generalize k % 2 = s at h; revert s; decide +kernel

theorem four_inb (k : ℕ) : ∀ a, (![k % 4, 0, 0] : Fin 3 → ℕ) a + S1x64x16384.size a ≤ S4x64x16384.size a := by
  have h : k % 4 < 4 := Nat.mod_lt _ (by decide)
  generalize k % 4 = s at h; revert s; decide +kernel

theorem sem2_inb (k : ℕ) : ∀ a, (![k % 2] : Fin 1 → ℕ) a + S1.size a ≤ S2.size a := by
  have h : k % 2 < 2 := Nat.mod_lt _ (by decide)
  generalize k % 2 = s at h; revert s; decide +kernel

theorem sem4_inb (k : ℕ) : ∀ a, (![k % 4] : Fin 1 → ℕ) a + S1.size a ≤ S4.size a := by
  have h : k % 4 < 4 := Nat.mod_lt _ (by decide)
  generalize k % 4 = s at h; revert s; decide +kernel

theorem ownOff_inb (k : ℕ) (hk : k < 16) (d : Dev nD) : ∀ a, (ownOff k d) a + S64x16384.size a ≤ S1024x32768.size a := by
  revert k hk d; decide +kernel

theorem peerOff_inb (k : ℕ) (hk : k < 16) (d : Dev nD) : ∀ a, (peerOff k d) a + S64x16384.size a ≤ S1024x32768.size a := by
  revert k hk d; decide +kernel

/-- Rows `64 k … 64 k + 63` of the logits. -/
abbrev logitsRows (k : ℕ) (hk : k < 16) : Memref sig .tc .hbm S64x16384 .f32 :=
  (Memref.whole main_v1).slice (Rect.unit (s := S1024x16384) ![64 * k, 0] S64x16384.size (rows_inb k hk)) (fun _ => rfl)

/-- The sending slot of chunk `k`. -/
abbrev sbuf (k : ℕ) : Memref sig .tc .vmem S64x16384 .f32 :=
  ((Memref.whole cc1_scratch0).slice (Rect.unit (s := S2x64x16384) ![k % 2, 0, 0] S1x64x16384.size (two_inb k)) (fun _ => rfl)).squeeze
    S64x16384 squeezes_S1x64x16384_S64x16384

/-- The receiving slot of chunk `k`. -/
abbrev rbuf (k : ℕ) : Memref sig .tc .vmem S64x16384 .f32 :=
  ((Memref.whole cc1_scratch1).slice (Rect.unit (s := S4x64x16384) ![k % 4, 0, 0] S1x64x16384.size (four_inb k)) (fun _ => rfl)).squeeze
    S64x16384 squeezes_S1x64x16384_S64x16384

/-- The device's own half of chunk `k` in the result. -/
abbrev outOwn (d : Dev nD) (k : ℕ) (hk : k < 16) : Memref sig .tc .hbm S64x16384 .f32 :=
  (Memref.whole main_v23).slice (Rect.unit (s := S1024x32768) (ownOff k d) S64x16384.size (ownOff_inb k hk d)) (fun _ => rfl)

/-- The peer's half of chunk `k` in the result. -/
abbrev outPeer (d : Dev nD) (k : ℕ) (hk : k < 16) : Memref sig .tc .hbm S64x16384 .f32 :=
  (Memref.whole main_v23).slice (Rect.unit (s := S1024x32768) (peerOff k d) S64x16384.size (peerOff_inb k hk d)) (fun _ => rfl)

/-- The semaphore of chunk `k`'s staging copy. -/
abbrev stageSem (k : ℕ) : DmaSem sig := ((cc1_scratch2.slice (Rect.unit (s := S2) ![k % 2] S1.size (sem2_inb k))).squeeze S_ squeezes_S1_S_).sem
/-- The semaphore of the copy of a received chunk into the result. -/
abbrev locSem : DmaSem sig := cc1_scratch3.sem
/-- The semaphore of chunk `k`'s copy of the own half into the result. -/
abbrev outSem (k : ℕ) : DmaSem sig := ((cc1_scratch4.slice (Rect.unit (s := S2) ![k % 2] S1.size (sem2_inb k))).squeeze S_ squeezes_S1_S_).sem
/-- The semaphore on which chunk `k` has been read out of the sender. -/
abbrev sendSem (k : ℕ) : DmaSem sig := ((cc1_scratch5.slice (Rect.unit (s := S2) ![k % 2] S1.size (sem2_inb k))).squeeze S_ squeezes_S1_S_).sem
/-- The semaphore on which chunk `k` lands. -/
abbrev recvSem (k : ℕ) : DmaSem sig := ((cc1_scratch6.slice (Rect.unit (s := S4) ![k % 4] S1.size (sem4_inb k))).squeeze S_ squeezes_S1_S_).sem

/-- The exponentials of a chunk, scaled: what the body stores from a chunk of logits and the two columns of statistics. -/
def chunkOf (mm ss : Vec F S64x1 .f32) (v : Vec F S1x64x16384 .f32) : FVec F S1x64x16384 .f32 :=
  shapeCast S1x64x16384
    (mulf (exp (subf (shapeCast S64x16384 v shapeCasts_S1x64x16384_S64x16384)
        (broadcastTo S64x16384 (shapeCast S64x1 mm shapeCasts_S64x1_S64x1) broadcasts_S64x1_S64x16384)))
      (broadcastTo S64x16384 (shapeCast S64x1 ss shapeCasts_S64x1_S64x1) broadcasts_S64x1_S64x16384))
    shapeCasts_S64x16384_S1x64x16384

/-- One step of the body, on chunk `k`. -/
inductive Item
  | stage (k : ℕ) (hk : k < 16)
  | fill (k : ℕ) (hk : k < 16)
  | send (k : ℕ) (hk : k < 16)
  | put (k : ℕ) (hk : k < 16)
  | recv (k : ℕ) (hk : k < 16)
  | sent (k : ℕ) (hk : k < 16)
  | done (k : ℕ) (hk : k < 16)
  | credit
  | credits

abbrev mRef : Memref sig .tc .vmem S1024x1 .f32 := win1_0.stage (cfg1.slots t1_0 0)
abbrev sRef : Memref sig .tc .vmem S1024x1 .f32 := win1_1.stage (cfg1.slots t1_0 1)

/-- The program of one step on device `d`. -/
def Item.prog (d : Dev nD) : Item → Prog (TpuEff nD τ sig (Elt F) Λ₀ .tc) PUnit
  | .stage k hk => do
      Prog.lift (.enqueueDma (logitsRows k hk) (.here (sbuf k)) (.dma (stageSem k)) (View.wordExact_bits rfl) ((View.wordExact_bits rfl).reshape _ _) ⟨Or.inl rfl, trivial⟩)
      Prog.lift (.waitDma2 (stageSem k) (logitsRows k hk) (sbuf k) (View.wordExact_bits rfl) ((View.wordExact_bits rfl).reshape _ _))
  | .fill k hk => do
      let mm : Vec F S64x1 .f32 ← Prog.lift (.load mRef (Rect.unit (s := S1024x1) ![64 * k, 0] S64x1.size (stat_inb k hk)).toLoadRect (View.loadsAt_vmem h_S64x1))
      let ss : Vec F S64x1 .f32 ← Prog.lift (.load sRef (Rect.unit (s := S1024x1) ![64 * k, 0] S64x1.size (stat_inb k hk)).toLoadRect (View.loadsAt_vmem h_S64x1))
      let v : Vec F S1x64x16384 .f32 ← Prog.lift (.load (Memref.whole cc1_scratch0) (Rect.unit (s := S2x64x16384) ![k % 2, 0, 0] S1x64x16384.size (two_inb k)).toLoadRect (View.loadsAt_vmem h_S1x64x16384))
      let _v : Vec F S1x64x16384 .f32 ← Prog.lift (.load (Memref.whole cc1_scratch0) (Rect.unit (s := S2x64x16384) ![k % 2, 0, 0] S1x64x16384.size (two_inb k)).toLoadRect (View.loadsAt_vmem h_S1x64x16384))
      Prog.lift (.store (Memref.whole cc1_scratch0) (Rect.unit (s := S2x64x16384) ![k % 2, 0, 0] S1x64x16384.size (two_inb k)) (chunkOf mm ss v) Finset.univ (View.stores_vmem_bits_univ h_S1x64x16384 rfl) (.inl rfl))
  | .send k hk =>
      Prog.lift (.enqueueDma (sbuf k) (.remote (Dev.tc (⟨sendDev k d, sendDev_lt k d⟩ : Dev nD)) (rbuf k) (.dma (sendSem k))) (.dma (recvSem k)) ((View.wordExact_bits rfl).reshape _ _) ((View.wordExact_bits rfl).reshape _ _) ⟨⟨rfl, Or.inl rfl⟩, trivial⟩)
  | .put k hk =>
      Prog.lift (.enqueueDma (sbuf k) (.here (outOwn d k hk)) (.dma (outSem k)) ((View.wordExact_bits rfl).reshape _ _) (View.wordExact_bits rfl) ⟨Or.inl rfl, trivial⟩)
  | .recv k hk => do
      Prog.lift (.waitDma2 (recvSem k) (sbuf 0) (rbuf k) ((View.wordExact_bits rfl).reshape _ _) ((View.wordExact_bits rfl).reshape _ _))
      Prog.lift (.enqueueDma (rbuf k) (.here (outPeer d k hk)) (.dma locSem) ((View.wordExact_bits rfl).reshape _ _) (View.wordExact_bits rfl) ⟨Or.inl rfl, trivial⟩)
      Prog.lift (.waitDma2 locSem (rbuf k) (outPeer d k hk) ((View.wordExact_bits rfl).reshape _ _) (View.wordExact_bits rfl))
      semSignalWord (⟨credDev k d, credDev_lt k d⟩ : Dev nD) cc1_scratch7.sem 1#32
  | .sent k hk =>
      Prog.lift (.waitDma2 (sendSem k) (rbuf k) (sbuf k) ((View.wordExact_bits rfl).reshape _ _) ((View.wordExact_bits rfl).reshape _ _))
  | .done k hk =>
      Prog.lift (.waitDma2 (outSem k) (sbuf k) (outOwn d k hk) ((View.wordExact_bits rfl).reshape _ _) (View.wordExact_bits rfl))
  | .credit => semWaitWord cc1_scratch7.sem 1#32
  | .credits => semWaitWord cc1_scratch7.sem 4#32

/-- The steps of the chunks in their order. -/
def items : List Item :=
  [.stage 0 (by decide), .fill 0 (by decide), .send 0 (by decide), .put 0 (by decide), .stage 1 (by decide), .fill 1 (by decide),
   .send 1 (by decide), .put 1 (by decide), .sent 0 (by decide), .done 0 (by decide), .stage 2 (by decide), .fill 2 (by decide),
   .send 2 (by decide), .put 2 (by decide), .sent 1 (by decide), .done 1 (by decide), .stage 3 (by decide), .fill 3 (by decide),
   .send 3 (by decide), .put 3 (by decide), .recv 0 (by decide), .sent 2 (by decide), .done 2 (by decide), .stage 4 (by decide),
   .fill 4 (by decide), .credit, .send 4 (by decide), .put 4 (by decide), .recv 1 (by decide), .sent 3 (by decide),
   .done 3 (by decide), .stage 5 (by decide), .fill 5 (by decide), .credit, .send 5 (by decide), .put 5 (by decide),
   .recv 2 (by decide), .sent 4 (by decide), .done 4 (by decide), .stage 6 (by decide), .fill 6 (by decide), .credit,
   .send 6 (by decide), .put 6 (by decide), .recv 3 (by decide), .sent 5 (by decide), .done 5 (by decide), .stage 7 (by decide),
   .fill 7 (by decide), .credit, .send 7 (by decide), .put 7 (by decide), .recv 4 (by decide), .sent 6 (by decide),
   .done 6 (by decide), .stage 8 (by decide), .fill 8 (by decide), .credit, .send 8 (by decide), .put 8 (by decide),
   .recv 5 (by decide), .sent 7 (by decide), .done 7 (by decide), .stage 9 (by decide), .fill 9 (by decide), .credit,
   .send 9 (by decide), .put 9 (by decide), .recv 6 (by decide), .sent 8 (by decide), .done 8 (by decide), .stage 10 (by decide),
   .fill 10 (by decide), .credit, .send 10 (by decide), .put 10 (by decide), .recv 7 (by decide), .sent 9 (by decide),
   .done 9 (by decide), .stage 11 (by decide), .fill 11 (by decide), .credit, .send 11 (by decide), .put 11 (by decide),
   .recv 8 (by decide), .sent 10 (by decide), .done 10 (by decide), .stage 12 (by decide), .fill 12 (by decide), .credit,
   .send 12 (by decide), .put 12 (by decide), .recv 9 (by decide), .sent 11 (by decide), .done 11 (by decide), .stage 13 (by decide),
   .fill 13 (by decide), .credit, .send 13 (by decide), .put 13 (by decide), .recv 10 (by decide), .sent 12 (by decide),
   .done 12 (by decide), .stage 14 (by decide), .fill 14 (by decide), .credit, .send 14 (by decide), .put 14 (by decide),
   .recv 11 (by decide), .sent 13 (by decide), .done 13 (by decide), .stage 15 (by decide), .fill 15 (by decide), .credit,
   .send 15 (by decide), .put 15 (by decide), .recv 12 (by decide), .recv 13 (by decide), .recv 14 (by decide), .recv 15 (by decide),
   .sent 14 (by decide), .done 14 (by decide), .sent 15 (by decide), .done 15 (by decide), .credits]

/-- A list of steps, run in order. -/
def runItems (d : Dev nD) : List Item → Prog (TpuEff nD τ sig (Elt F) Λ₀ .tc) PUnit
  | [] => pure ⟨⟩
  | i :: l => i.prog d >>= fun _ => runItems d l

set_option maxRecDepth 100000 in
set_option maxHeartbeats 4000000 in
/-- The printed body greets its peer, then runs the steps. -/
theorem body_eq : bodyAt1 (F := F) t1_0 = (do
    let d : Dev nD ← Prog.lift .deviceId
    semSignalWord (⟨k1_dev1 d, k1_dev1_lt d⟩ : Dev nD) ((SemArray.scalar (sig.barrier 1 rfl) : Sems sig S_)).sem 1#32
    semWaitWord ((SemArray.scalar (sig.barrier 1 rfl) : Sems sig S_)).sem 1#32
    runItems d items) := rfl

end Cert.KernelIdeal.Halves

end
-- ==== Proof.Sched.lean ====
module

public import proofs.«01_k».proof.Proof.Halves
public import Idealize.ShloMosaic.Lib.Rounds
public import Idealize.ShloMosaic.Lib.Release
public import Idealize.ShloMosaic.Lib.Pipeline.TalkSites
public import Idealize.ShloMosaic.Lib.Tactic
public import Idealize.ShloMosaic.Lib.Writes
public import Idealize.ShloMosaic.Lib.VecWindow

@[expose] public section

noncomputable section

/-! The ghost state of the two calls: the cells of each, what is paid to them in which round, and what a payment carries. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The staging copies' component, then the rounds of the first call, the rounds of the second, the second's receiving slots. -/
abbrev UU : Type :=
  URounds (GSem nD τ sig) Unit × (URounds (GSem nD τ sig) ℕ × (URounds (GSem nD τ sig) ℕ × Release.USlots (Dev nD × ℕ)))

instance : URA UU := Prod.instURA

local notation "𝕄" => MT nD τ sig ℕ (Elt F) ℕ UU ℕ

abbrev EP : Emb (URounds (GSem nD τ sig) Unit) 𝕄 := embL
abbrev EC : Emb (URounds (GSem nD τ sig) ℕ × (URounds (GSem nD τ sig) ℕ × Release.USlots (Dev nD × ℕ))) 𝕄 := embR
abbrev EA : Emb (URounds (GSem nD τ sig) ℕ) 𝕄 := (Emb.inl : Emb _ (URounds (GSem nD τ sig) ℕ × (URounds (GSem nD τ sig) ℕ × Release.USlots (Dev nD × ℕ)))).trans EC
abbrev EC' : Emb (URounds (GSem nD τ sig) ℕ × Release.USlots (Dev nD × ℕ)) 𝕄 := (Emb.inr : Emb _ (URounds (GSem nD τ sig) ℕ × (URounds (GSem nD τ sig) ℕ × Release.USlots (Dev nD × ℕ)))).trans EC
abbrev EB : Emb (URounds (GSem nD τ sig) ℕ) 𝕄 := (Emb.inl : Emb _ (URounds (GSem nD τ sig) ℕ × Release.USlots (Dev nD × ℕ))).trans EC'
abbrev ES : Emb (Release.USlots (Dev nD × ℕ)) 𝕄 := (Emb.inr : Emb _ (URounds (GSem nD τ sig) ℕ × Release.USlots (Dev nD × ℕ))).trans EC'

/-- The device that shares the row of the mesh. -/
def peer (c : Dev nD) : Dev nD := ⟨(2 * (c.val / 2) + 1) - c.val % 2, by revert c; decide⟩
theorem peer_peer (c : Dev nD) : peer (peer c) = c := by revert c; decide
theorem peer_ne (c : Dev nD) : peer c ≠ c := by revert c; decide

/-- A device's cell at a semaphore. -/
abbrev cl (c : Dev nD) (sm : SemLoc sig) : GSem nD τ sig := ((c : Thread nD τ), sm)

/-- A memref's elements on a device's core, holding `x`. -/
abbrev holds {sp : Space} {s : Shape} {e : EltTy} (c : Dev nD) (m : Memref sig .tc sp s e) (q : PosShare TreeShare) (x : s.Idx → Elt F e) : sProp 𝕄 :=
  m.view.loc (c : Thread nD τ) ↦[m.view.set]{q} m.view.rep x

/-! ## The second call -/

abbrev barS : Sem sig := ((SemArray.scalar (sig.barrier 1 rfl) : Sems sig S_)).sem
abbrev credS : Sem sig := cc1_scratch7.sem

/-- What a semaphore of the second call counts; the slot it belongs to where there are several. -/
inductive Role
  | stage (s : ℕ) | loc | out (s : ℕ) | send (s : ℕ) | recv (s : ℕ) | credit | bar | other
  deriving DecidableEq

/-- The role of a semaphore. -/
def roleOf : SemLoc sig → Role
  | .dma n => if n.val < 6 then .other else if n.val < 8 then .stage (n.val - 6) else if n.val < 9 then .loc
      else if n.val < 11 then .out (n.val - 9) else if n.val < 13 then .send (n.val - 11) else .recv (n.val - 13)
  | .reg n => if n.val = 1 then .credit else if n.val = 2 then .bar else .other

theorem role_stage (k : ℕ) : roleOf (.dma (stageSem k)) = .stage (k % 2) := by
  have h : k % 2 < 2 := Nat.mod_lt _ (by decide)
  have e : ∀ s (hs : s < 2) (h : ∀ a, (![s] : Fin 1 → ℕ) a + S1.size a ≤ S2.size a),
    roleOf (.dma ((cc1_scratch2.slice (Rect.unit (s := S2) ![s] S1.size h)).squeeze S_ squeezes_S1_S_).sem) = .stage s := by decide +kernel
  exact e _ h _
theorem role_loc : roleOf (.dma locSem) = .loc := by decide +kernel
theorem role_out (k : ℕ) : roleOf (.dma (outSem k)) = .out (k % 2) := by
  have h : k % 2 < 2 := Nat.mod_lt _ (by decide)
  have e : ∀ s (hs : s < 2) (h : ∀ a, (![s] : Fin 1 → ℕ) a + S1.size a ≤ S2.size a),
    roleOf (.dma ((cc1_scratch4.slice (Rect.unit (s := S2) ![s] S1.size h)).squeeze S_ squeezes_S1_S_).sem) = .out s := by decide +kernel
  exact e _ h _
theorem role_send (k : ℕ) : roleOf (.dma (sendSem k)) = .send (k % 2) := by
  have h : k % 2 < 2 := Nat.mod_lt _ (by decide)
  have e : ∀ s (hs : s < 2) (h : ∀ a, (![s] : Fin 1 → ℕ) a + S1.size a ≤ S2.size a),
    roleOf (.dma ((cc1_scratch5.slice (Rect.unit (s := S2) ![s] S1.size h)).squeeze S_ squeezes_S1_S_).sem) = .send s := by decide +kernel
  exact e _ h _
theorem role_recv (k : ℕ) : roleOf (.dma (recvSem k)) = .recv (k % 4) := by
  have h : k % 4 < 4 := Nat.mod_lt _ (by decide)
  have e : ∀ s (hs : s < 4) (h : ∀ a, (![s] : Fin 1 → ℕ) a + S1.size a ≤ S4.size a),
    roleOf (.dma ((cc1_scratch6.slice (Rect.unit (s := S4) ![s] S1.size h)).squeeze S_ squeezes_S1_S_).sem) = .recv s := by decide +kernel
  exact e _ h _
theorem role_credit : roleOf (.reg credS) = .credit := by decide +kernel
theorem role_bar : roleOf (.reg barS) = .bar := by decide +kernel

/-- What one copy of a chunk credits. -/
abbrev N : ℕ := (sbuf 0).view.dmaCredit
theorem N_pos : 0 < N := View.dmaCredit_pos _ (by decide)
theorem amount_sbuf (k : ℕ) (s : DmaSem sig) : (sbuf k).view.amount (.dma s) = N := rfl
theorem amount_rbuf (k : ℕ) (s : DmaSem sig) : (rbuf k).view.amount (.dma s) = N := rfl
theorem amount_outOwn (d : Dev nD) (k : ℕ) (hk : k < 16) (s : DmaSem sig) : (outOwn d k hk).view.amount (.dma s) = N := rfl
theorem amount_outPeer (d : Dev nD) (k : ℕ) (hk : k < 16) (s : DmaSem sig) : (outPeer d k hk).view.amount (.dma s) = N := rfl

/-- The chunk that a round of a cell is about; 16 or more where there is none. -/
def Role.chunk : Role → ℕ → ℕ
  | .stage s, r => 2 * r + s
  | .loc, r => r
  | .out s, r => 2 * r + s
  | .send s, r => 2 * r + s
  | .recv s, r => 4 * r + s
  | _, _ => 16

variable (lg : Dev nD → main_v1.ty.Contents (Elt F)) (Y : Dev nD → ℕ → S64x16384.Idx → Elt F .f32)

abbrev qL : PosShare TreeShare := fullShare.left
abbrev qR : PosShare TreeShare := fullShare.right

/-- What chunk `j` sent to device `b` needs: that `b` has released the receiving slot, and is at the round of its cell. -/
def free (b : Dev nD) (j : ℕ) : sProp 𝕄 :=
  iprop(Release.released ES (b, j % 4) (j / 4 + 1) ∗ reached EB (cl b (.dma (recvSem j))) (j / 4))
instance free_persistent (b : Dev nD) (j : ℕ) : BI.Persistent (free (F := F) b j) := by unfold free; infer_instance
instance free_storable (b : Dev nD) (j : ℕ) : BI.Storable (upEmb : UEmb _ 𝕄) (free (F := F) b j) := by unfold free; infer_instance
/-- The first `n` chunks may be sent to device `b`. -/
def frees (b : Dev nD) (n : ℕ) : sProp 𝕄 := bigSep (Finset.range n) (fun j => free b j)
instance frees_persistent (b : Dev nD) (n : ℕ) : BI.Persistent (frees (F := F) b n) := by unfold frees; infer_instance
instance frees_storable (b : Dev nD) (n : ℕ) : BI.Storable (upEmb : UEmb _ 𝕄) (frees (F := F) b n) := by unfold frees; infer_instance

/-- A round of a cell of device `c` that is about chunk `k` hands back what the copy read and what it wrote. -/
def pay (c : Dev nD) (k : ℕ) (hk : k < 16) : Role → sProp 𝕄
  | .stage _ => iprop(holds c (sbuf k) fullShare ((logitsRows k hk).view.read (Elt F) (lg c))
      ∗ holds c (logitsRows k hk) fullShare ((logitsRows k hk).view.read (Elt F) (lg c)))
  | .loc => iprop(holds c (outPeer c k hk) fullShare (Y (peer c) k) ∗ holds c (rbuf k) fullShare (Y (peer c) k))
  | .out _ => iprop(holds c (outOwn c k hk) fullShare (Y c k) ∗ holds c (sbuf k) qR (Y c k))
  | .send _ => holds c (sbuf k) qL (Y c k)
  | .recv _ => holds c (rbuf k) fullShare (Y (peer c) k)
  | _ => iprop(emp)

instance pay_storable (c : Dev nD) (k : ℕ) (hk : k < 16) (x : Role) : BI.Storable (upEmb : UEmb _ 𝕄) (pay lg Y c k hk x) := by
  unfold pay holds; split <;> infer_instance

/-- The barrier: the peer has released its four receiving slots, its receiving cells and its credit cell are open. -/
def barPay (c : Dev nD) : sProp 𝕄 := iprop(frees (peer c) 4 ∗ reached EB (cl (peer c) (.reg credS)) 0)
instance barPay_storable (c : Dev nD) : BI.Storable (upEmb : UEmb _ 𝕄) (barPay (F := F) c) := by unfold barPay; infer_instance
instance barPay_persistent (c : Dev nD) : BI.Persistent (barPay (F := F) c) := by unfold barPay; infer_instance

def rdDuties (g : GSem nD τ sig) (r : ℕ) : Finset ℕ :=
  if g.1.2 = .tc then
    match roleOf g.2 with
    | .credit => if r = 0 then Finset.range 16 else ∅
    | .bar => if r = 0 then {0} else ∅
    | x => if x.chunk r < 16 then {0} else ∅
  else ∅
def rdAmount (g : GSem nD τ sig) : ℕ := match roleOf g.2 with | .credit => 1 | .bar => 1 | _ => N
def rdPay (g : GSem nD τ sig) (r d : ℕ) : sProp 𝕄 :=
  match roleOf g.2 with
  | .credit => frees (peer g.1.1) (d + 5)
  | .bar => barPay g.1.1
  | x => if h : x.chunk r < 16 then pay lg Y g.1.1 (x.chunk r) h x else iprop(emp)

/-- The schedule of the second call. -/
def Rd : Schedule (GSem nD τ sig) ℕ 𝕄 where
  duties := rdDuties
  unitless _ := False
  amount g _ _ := rdAmount g
  payload := rdPay lg Y
  amount_pos g _ _ _ := by unfold rdAmount; split <;> first | exact Nat.one_pos | exact N_pos

instance Rd_storable (g : GSem nD τ sig) (r d : ℕ) : BI.Storable (upEmb : UEmb _ 𝕄) ((Rd lg Y).payload g r d) := by
  show BI.Storable upEmb (rdPay lg Y g r d)
  unfold rdPay
  split
  · infer_instance
  · infer_instance
  · split <;> infer_instance

/-- The rounds' roles that carry chunks. -/
def Role.Chunked : Role → Prop | .credit => False | .bar => False | _ => True
instance : DecidablePred Role.Chunked := fun x => by cases x <;> unfold Role.Chunked <;> infer_instance

theorem duties_chunk {c : Dev nD} {sm : SemLoc sig} {x : Role} (hx : roleOf sm = x) (hc : x.Chunked) (r : ℕ) :
    (Rd lg Y).duties (cl c sm) r = if x.chunk r < 16 then {0} else ∅ := by
  show rdDuties (cl c sm) r = _
  unfold rdDuties
  rw [if_pos rfl, show (cl c sm).2 = sm from rfl, hx]
  cases x <;> first | exact hc.elim | rfl
theorem amount_chunk {c : Dev nD} {sm : SemLoc sig} {x : Role} (hx : roleOf sm = x) (hc : x.Chunked) (r d : ℕ) : (Rd lg Y).amount (cl c sm) r d = N := by
  show rdAmount (cl c sm) = _
  unfold rdAmount
  rw [show (cl c sm).2 = sm from rfl, hx]
  cases x <;> first | exact hc.elim | rfl
theorem pay_chunk {c : Dev nD} {sm : SemLoc sig} {x : Role} (hx : roleOf sm = x) (hc : x.Chunked) (r d k : ℕ) (hk : k < 16) (e : x.chunk r = k) :
    (Rd lg Y).payload (cl c sm) r d = pay lg Y c k hk x := by
  subst e
  show rdPay lg Y (cl c sm) r d = _
  unfold rdPay
  rw [show (cl c sm).2 = sm from rfl, hx]
  cases x <;> first | exact hc.elim | exact dif_pos hk
theorem mem_chunk {c : Dev nD} {sm : SemLoc sig} {x : Role} (hx : roleOf sm = x) (hc : x.Chunked) (r k : ℕ) (hk : k < 16) (e : x.chunk r = k) :
    0 ∈ (Rd lg Y).duties (cl c sm) r := by
  rw [duties_chunk lg Y hx hc, e, if_pos hk]; exact Finset.mem_singleton_self _
theorem expect_chunk {c : Dev nD} {sm : SemLoc sig} {x : Role} (hx : roleOf sm = x) (hc : x.Chunked) (r k : ℕ) (hk : k < 16) (e : x.chunk r = k) :
    (Rd lg Y).expect (cl c sm) r = N := by
  unfold Schedule.expect Schedule.amountOf
  rw [duties_chunk lg Y hx hc, e, if_pos hk, Finset.sum_singleton, amount_chunk lg Y hx hc]
theorem rest_chunk {c : Dev nD} {sm : SemLoc sig} {x : Role} (hx : roleOf sm = x) (hc : x.Chunked) (r k : ℕ) (hk : k < 16) (e : x.chunk r = k) :
    bigSep ((Rd lg Y).duties (cl c sm) r \ ∅) (fun d => (Rd lg Y).payload (cl c sm) r d) = pay lg Y c k hk x := by
  rw [Finset.sdiff_empty, duties_chunk lg Y hx hc, e, if_pos hk, bigSep_singleton, pay_chunk lg Y hx hc r 0 k hk e]

theorem duties_bar (c : Dev nD) : (Rd lg Y).duties (cl c (.reg barS)) 0 = {0} := by
  show rdDuties (cl c (.reg barS)) 0 = _
  unfold rdDuties
  rw [if_pos rfl, show (cl c (.reg barS)).2 = .reg barS from rfl, role_bar]; rfl
theorem amount_bar (c : Dev nD) (r d : ℕ) : (Rd lg Y).amount (cl c (.reg barS)) r d = 1 := by
  show rdAmount (cl c (.reg barS)) = _
  unfold rdAmount; rw [show (cl c (.reg barS)).2 = .reg barS from rfl, role_bar]
theorem payload_bar (c : Dev nD) (r d : ℕ) : (Rd lg Y).payload (cl c (.reg barS)) r d = barPay c := by
  show rdPay lg Y (cl c (.reg barS)) r d = _
  unfold rdPay; rw [show (cl c (.reg barS)).2 = .reg barS from rfl, role_bar]
theorem expect_bar (c : Dev nD) : (Rd lg Y).expect (cl c (.reg barS)) 0 = 1 := by
  unfold Schedule.expect Schedule.amountOf; rw [duties_bar, Finset.sum_singleton, amount_bar]
theorem rest_bar (c : Dev nD) : bigSep ((Rd lg Y).duties (cl c (.reg barS)) 0 \ ∅) (fun u => (Rd lg Y).payload (cl c (.reg barS)) 0 u) = barPay c := by
  rw [Finset.sdiff_empty, duties_bar, bigSep_singleton, payload_bar]
theorem duties_credit (c : Dev nD) : (Rd lg Y).duties (cl c (.reg credS)) 0 = Finset.range 16 := by
  show rdDuties (cl c (.reg credS)) 0 = _
  unfold rdDuties
  rw [if_pos rfl, show (cl c (.reg credS)).2 = .reg credS from rfl, role_credit]; rfl
theorem amount_credit (c : Dev nD) (r d : ℕ) : (Rd lg Y).amount (cl c (.reg credS)) r d = 1 := by
  show rdAmount (cl c (.reg credS)) = _
  unfold rdAmount; rw [show (cl c (.reg credS)).2 = .reg credS from rfl, role_credit]
theorem payload_credit (c : Dev nD) (r d : ℕ) : (Rd lg Y).payload (cl c (.reg credS)) r d = frees (peer c) (d + 5) := by
  show rdPay lg Y (cl c (.reg credS)) r d = _
  unfold rdPay; rw [show (cl c (.reg credS)).2 = .reg credS from rfl, role_credit]
theorem expect_credit (c : Dev nD) : (Rd lg Y).expect (cl c (.reg credS)) 0 = 16 := by
  unfold Schedule.expect Schedule.amountOf
  rw [duties_credit, Finset.sum_congr rfl (fun d _ => amount_credit lg Y c 0 d)]; rfl

/-- From which round on a cell of the second call expects nothing. -/
def Role.last : Role → ℕ
  | .stage _ => 8 | .loc => 16 | .out _ => 8 | .send _ => 8 | .recv _ => 4 | .credit => 1 | .bar => 1 | .other => 0
theorem duties_last (c : Dev nD) (sm : SemLoc sig) (r : ℕ) (h : (roleOf sm).last ≤ r) : (Rd lg Y).duties (cl c sm) r = ∅ := by
  show rdDuties (cl c sm) r = ∅
  unfold rdDuties
  rw [if_pos rfl, show (cl c sm).2 = sm from rfl]
  generalize roleOf sm = x at h
  cases x <;> simp only [Role.last, Role.chunk] at h ⊢ <;> first | rfl | exact if_neg (by omega)

end Cert.KernelIdeal.Halves

end
-- ==== Proof.Chunks.lean ====
module

public import proofs.«01_k».proof.Proof.Sched

@[expose] public section

noncomputable section

/-! Families of assertions over the chunks still ahead, the views of equal slots, what a device still owes. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Families over an interval of chunks -/

/-- `Φ k` for every `k` from `a` up to `b`. -/
def fam (a b : ℕ) (Φ : ℕ → sProp 𝕄) : sProp 𝕄 := bigSep (Finset.Ico a b) Φ

theorem fam_pop {a b : ℕ} (h : a < b) (Φ : ℕ → sProp 𝕄) : fam a b Φ = iprop(Φ a ∗ fam (a + 1) b Φ) := by
  unfold fam
  rw [show Finset.Ico a b = insert a (Finset.Ico (a + 1) b) by ext x; simp only [Finset.mem_insert, Finset.mem_Ico]; omega]
  exact (BI.bigSep_insert (by simp only [Finset.mem_Ico]; omega)).trans rfl
theorem fam_push {a b : ℕ} (h : a ≤ b) (Φ : ℕ → sProp 𝕄) : fam a (b + 1) Φ = iprop(Φ b ∗ fam a b Φ) := by
  unfold fam
  rw [show Finset.Ico a (b + 1) = insert b (Finset.Ico a b) by ext x; simp only [Finset.mem_insert, Finset.mem_Ico]; omega]
  exact (BI.bigSep_insert (by simp only [Finset.mem_Ico]; omega)).trans rfl
theorem fam_empty {a b : ℕ} (h : b ≤ a) (Φ : ℕ → sProp 𝕄) : fam a b Φ = (BI.emp : sProp 𝕄) := by
  unfold fam; rw [Finset.Ico_eq_empty (by omega)]; exact bigSep_empty
theorem fam_congr {a b : ℕ} {Φ Ψ : ℕ → sProp 𝕄} (h : ∀ k, a ≤ k → k < b → Φ k = Ψ k) : fam a b Φ = fam a b Ψ :=
  bigSep_congr fun k hk => h k (Finset.mem_Ico.mp hk).1 (Finset.mem_Ico.mp hk).2

/-- An assertion about chunk `k`, where there is one. -/
def at16 (k : ℕ) (f : k < 16 → sProp 𝕄) : sProp 𝕄 := if h : k < 16 then f h else iprop(emp)
theorem at16_eq {k : ℕ} (h : k < 16) (f : k < 16 → sProp 𝕄) : at16 k f = f h := dif_pos h

/-! ## Slots and semaphores that come round again -/

theorem sbuf_of (k j : ℕ) (h : k % 2 = j % 2) : sbuf k = sbuf j := by
  have e : ∀ (s t : ℕ) (hs : ∀ a, (![s, 0, 0] : Fin 3 → ℕ) a + S1x64x16384.size a ≤ S2x64x16384.size a)
      (ht : ∀ a, (![t, 0, 0] : Fin 3 → ℕ) a + S1x64x16384.size a ≤ S2x64x16384.size a), s = t →
      (((Memref.whole cc1_scratch0).slice (Rect.unit (s := S2x64x16384) ![s, 0, 0] S1x64x16384.size hs) (fun _ => rfl)).squeeze
        S64x16384 squeezes_S1x64x16384_S64x16384 : Memref sig .tc .vmem S64x16384 .f32)
      = ((Memref.whole cc1_scratch0).slice (Rect.unit (s := S2x64x16384) ![t, 0, 0] S1x64x16384.size ht) (fun _ => rfl)).squeeze
        S64x16384 squeezes_S1x64x16384_S64x16384 := fun s t hs ht h => by subst h; rfl
  exact e _ _ _ _ h
theorem rbuf_of (k j : ℕ) (h : k % 4 = j % 4) : rbuf k = rbuf j := by
  have e : ∀ (s t : ℕ) (hs : ∀ a, (![s, 0, 0] : Fin 3 → ℕ) a + S1x64x16384.size a ≤ S4x64x16384.size a)
      (ht : ∀ a, (![t, 0, 0] : Fin 3 → ℕ) a + S1x64x16384.size a ≤ S4x64x16384.size a), s = t →
      (((Memref.whole cc1_scratch1).slice (Rect.unit (s := S4x64x16384) ![s, 0, 0] S1x64x16384.size hs) (fun _ => rfl)).squeeze
        S64x16384 squeezes_S1x64x16384_S64x16384 : Memref sig .tc .vmem S64x16384 .f32)
      = ((Memref.whole cc1_scratch1).slice (Rect.unit (s := S4x64x16384) ![t, 0, 0] S1x64x16384.size ht) (fun _ => rfl)).squeeze
        S64x16384 squeezes_S1x64x16384_S64x16384 := fun s t hs ht h => by subst h; rfl
  exact e _ _ _ _ h
theorem sem2_of (sc : DmaSems sig S2) (k j : ℕ) (h : k % 2 = j % 2) :
    ((sc.slice (Rect.unit (s := S2) ![k % 2] S1.size (sem2_inb k))).squeeze S_ squeezes_S1_S_).sem
      = ((sc.slice (Rect.unit (s := S2) ![j % 2] S1.size (sem2_inb j))).squeeze S_ squeezes_S1_S_).sem := by
  have e : ∀ (s t : ℕ) (hs : ∀ a, (![s] : Fin 1 → ℕ) a + S1.size a ≤ S2.size a) (ht : ∀ a, (![t] : Fin 1 → ℕ) a + S1.size a ≤ S2.size a), s = t →
      ((sc.slice (Rect.unit (s := S2) ![s] S1.size hs)).squeeze S_ squeezes_S1_S_).sem
      = ((sc.slice (Rect.unit (s := S2) ![t] S1.size ht)).squeeze S_ squeezes_S1_S_).sem := fun s t hs ht h => by subst h; rfl
  exact e _ _ _ _ h
theorem stageSem_of (k j : ℕ) (h : k % 2 = j % 2) : stageSem k = stageSem j := sem2_of cc1_scratch2 k j h
theorem outSem_of (k j : ℕ) (h : k % 2 = j % 2) : outSem k = outSem j := sem2_of cc1_scratch4 k j h
theorem sendSem_of (k j : ℕ) (h : k % 2 = j % 2) : sendSem k = sendSem j := sem2_of cc1_scratch5 k j h
theorem recvSem_of (k j : ℕ) (h : k % 4 = j % 4) : recvSem k = recvSem j := by
  have e : ∀ (s t : ℕ) (hs : ∀ a, (![s] : Fin 1 → ℕ) a + S1.size a ≤ S4.size a) (ht : ∀ a, (![t] : Fin 1 → ℕ) a + S1.size a ≤ S4.size a), s = t →
      ((cc1_scratch6.slice (Rect.unit (s := S4) ![s] S1.size hs)).squeeze S_ squeezes_S1_S_).sem
      = ((cc1_scratch6.slice (Rect.unit (s := S4) ![t] S1.size ht)).squeeze S_ squeezes_S1_S_).sem := fun s t hs ht h => by subst h; rfl
  exact e _ _ _ _ h

/-! ## Contents -/

/-- What a copy leaves at its destination. -/
theorem landed {sp sp' : Space} {s : Shape} {e : EltTy} (c : Dev nD) (m : Memref sig .tc sp s e) (m' : Memref sig .tc sp' s e) (q : PosShare TreeShare)
    (fd : Buf (Elt F) (m.view.loc (c : Thread nD τ))) (X : s.Idx → Elt F e) :
    (m.view.loc (c : Thread nD τ) ↦[m.view.set]{q} m.view.write (Elt F) fd (m'.view.read (Elt F) (m'.view.rep X)) Finset.univ : sProp 𝕄) = holds c m q X := by
  unfold holds
  rw [pointsTo_rep (c : Thread nD τ) m, View.read_write_univ, View.read_rep]

/-- A buffer held at some contents, by what a memref reads of it. -/
theorem holds_of {sp : Space} {s : Shape} {e : EltTy} (c : Dev nD) (m : Memref sig .tc sp s e) (q : PosShare TreeShare)
    (f : Buf (Elt F) (m.view.loc (c : Thread nD τ))) :
    (m.view.loc (c : Thread nD τ) ↦[m.view.set]{q} f : sProp 𝕄) = holds c m q (m.view.read (Elt F) f) := pointsTo_rep (c : Thread nD τ) m f q

/-- Equal memrefs hold alike. -/
theorem holds_congr {sp : Space} {s : Shape} {e : EltTy} (c : Dev nD) {m m' : Memref sig .tc sp s e} (h : m = m') (q : PosShare TreeShare) (X : s.Idx → Elt F e) :
    (holds c m q X : sProp 𝕄) = holds c m' q X := by rw [h]

/-- A slot held in two halves. -/
theorem holds_halves {sp : Space} {s : Shape} {e : EltTy} (c : Dev nD) (m : Memref sig .tc sp s e) (X : s.Idx → Elt F e) :
    (holds c m fullShare X : sProp 𝕄) ⊣⊢ iprop(holds c m qL X ∗ holds c m qR X) := pointsTo_share (PosShare.mem_left_op_right fullShare)

/-- The logits, whole. -/
abbrev ptL (lg : Dev nD → main_v1.ty.Contents (Elt F)) (c : Dev nD) : sProp 𝕄 :=
  (Memref.whole main_v1).view.loc (c : Thread nD τ) ↦{fullShare} lg c

/-- The logits lend the rows of a chunk. -/
theorem lend (lg : Dev nD → main_v1.ty.Contents (Elt F)) (c : Dev nD) (k : ℕ) (hk : k < 16) :
    ptL lg c ⊢ iprop(holds c (logitsRows k hk) fullShare ((logitsRows k hk).view.read (Elt F) (lg c))
      ∗ (holds c (logitsRows k hk) fullShare ((logitsRows k hk).view.read (Elt F) (lg c)) -∗ ptL lg c)) := by
  rw [← holds_of c (logitsRows k hk) fullShare (lg c)]
  unfold ptL
  iintro H
  ihave H' := (pointsTo_split_subset (Finset.subset_univ (logitsRows k hk).view.set)).1 $$ H
  icases H' with ⟨Ha, Hb⟩
  isplitl [Ha]; · iexact Ha
  iintro Ha
  iapply (pointsTo_split_subset (Finset.subset_univ (logitsRows k hk).view.set)).2
  isplitl [Ha] <;> iassumption

/-! ## What is still owed -/

/-- The sends from chunk `s` on and the credits from chunk `r` on. -/
def owed (c : Dev nD) (s r : ℕ) : CellTallies nD τ sig ℕ :=
  (∑ k ∈ Finset.Ico s 16, tallyAt (cl (peer c) (.dma (recvSem k))) (4 + 2 * k) N)
    + ∑ k ∈ Finset.Ico r 16, tallyAt (cl (peer c) (.reg credS)) (5 + 2 * k) 1

theorem sum_tally_pos {S : Finset ℕ} {g : ℕ → GSem nD τ sig} {i : ℕ → ℕ} {n : ℕ} {x : GSem nD τ sig} {j : ℕ}
    (h : 0 < (∑ k ∈ S, tallyAt (Ix := ℕ) (g k) (i k) n) x j) : ∃ k ∈ S, x = g k ∧ j = i k := by
  rw [Finset.sum_apply, Finsupp.finset_sum_apply] at h
  obtain ⟨k, hk, hp⟩ := Finset.exists_ne_zero_of_sum_ne_zero (Nat.pos_iff_ne_zero.mp h)
  exact ⟨k, hk, Pipeline.tallyAt_pos (Nat.pos_of_ne_zero hp)⟩

theorem owed_pos {c : Dev nD} {s r : ℕ} {x : GSem nD τ sig} {j : ℕ} (h : 0 < owed c s r x j) :
    x.1.2 = .tc ∧ j < 40 ∧ ((4 + 2 * s ≤ j) ∨ 5 + 2 * r ≤ j) := by
  unfold owed at h
  rw [Pi.add_apply, Finsupp.add_apply] at h
  rcases Nat.add_pos_iff_pos_or_pos.mp h with h | h
  · obtain ⟨k, hk, rfl, rfl⟩ := sum_tally_pos h
    have := Finset.mem_Ico.mp hk
    exact ⟨rfl, by omega, Or.inl (by omega)⟩
  · obtain ⟨k, hk, rfl, rfl⟩ := sum_tally_pos h
    have := Finset.mem_Ico.mp hk
    exact ⟨rfl, by omega, Or.inr (by omega)⟩

theorem owed_send (c : Dev nD) {s : ℕ} (hs : s < 16) (r : ℕ) :
    owed c s r = owed c (s + 1) r + tallyAt (cl (peer c) (.dma (recvSem s))) (4 + 2 * s) N := by
  unfold owed
  rw [show Finset.Ico s 16 = insert s (Finset.Ico (s + 1) 16) by ext x; simp only [Finset.mem_insert, Finset.mem_Ico]; omega,
    Finset.sum_insert (by simp only [Finset.mem_Ico]; omega)]
  abel
theorem owed_credit (c : Dev nD) (s : ℕ) {r : ℕ} (hr : r < 16) :
    owed c s r = owed c s (r + 1) + tallyAt (cl (peer c) (.reg credS)) (5 + 2 * r) 1 := by
  unfold owed
  rw [show Finset.Ico r 16 = insert r (Finset.Ico (r + 1) 16) by ext x; simp only [Finset.mem_insert, Finset.mem_Ico]; omega,
    Finset.sum_insert (by simp only [Finset.mem_Ico]; omega)]
  abel
theorem owed_none (c : Dev nD) : owed c 16 16 = 0 := by
  unfold owed; rw [Finset.Ico_self, Finset.sum_empty, Finset.sum_empty, add_zero]

/-- A wait below all that is owed. -/
theorem wait_ok (c : Dev nD) (sm : SemLoc sig) (i s r : ℕ) (hi : i < 40) (hs : i < 4 + 2 * s) (hr : i < 5 + 2 * r) :
    (levAts (SiteBlocks.L 40) SiteBlocks.lv : sProp 𝕄) ⊢ MayWait (c : Thread nD τ) sm i (owed c s r) :=
  SiteBlocks.mayWait_of hi c sm _ fun g k h => by
    obtain ⟨h1, h2, h3⟩ := owed_pos h
    exact ⟨SiteBlocks.mem_L' h1 h2, by omega⟩

end Cert.KernelIdeal.Halves

end
-- ==== Proof.Fill.lean ====
module

public import proofs.«01_k».proof.Proof.Chunks
public import Idealize.ShloMosaic.Lib.Pipeline.Value

@[expose] public section

noncomputable section

/-! What the filling step reads and stores, in terms of a sending slot's contents. -/

namespace Cert.KernelIdeal.Halves

open Idealize.ShloMosaic Idealize.ShloMosaic.TcCoe
open Cert.KernelIdeal.Gen

variable {F : FTy → Type} [FloatOps F]

/-- The part of the sending buffer that is chunk `k`'s slot. -/
abbrev slotRect (k : ℕ) : Rect S2x64x16384 := Rect.unit (s := S2x64x16384) ![k % 2, 0, 0] S1x64x16384.size (two_inb k)
/-- Chunk `k`'s rows of a column of statistics. -/
abbrev statRect (k : ℕ) (hk : k < 16) : Rect S1024x1 := Rect.unit (s := S1024x1) ![64 * k, 0] S64x1.size (stat_inb k hk)

/-- The scaled exponentials of a chunk of logits. -/
def scaled (mm ss : Vec F S64x1 .f32) (x : FVec F S64x16384 .f32) : FVec F S64x16384 .f32 :=
  mulf (exp (subf x (broadcastTo S64x16384 (shapeCast S64x1 mm shapeCasts_S64x1_S64x1) broadcasts_S64x1_S64x16384)))
    (broadcastTo S64x16384 (shapeCast S64x1 ss shapeCasts_S64x1_S64x1) broadcasts_S64x1_S64x16384)

theorem sbuf_set (k : ℕ) : (sbuf k).view.set = ((Memref.whole cc1_scratch0).access (slotRect k)).set := Memref.set_view_squeeze _ _

theorem load_sub (k : ℕ) : (Memref.whole cc1_scratch0).view.setOn (slotRect k).toLoadRect.set ⊆ (sbuf k).view.set := by
  rw [sbuf_set]
  exact (View.set_slice ..).ge

theorem store_sub (k : ℕ) : ((Memref.whole cc1_scratch0).access (slotRect k)).setOn Finset.univ ⊆ (sbuf k).view.set := by
  rw [sbuf_set]
  exact View.setOn_subset_set _ _

theorem read_stored (k : ℕ) (f : (sbuf k).view.ty.Contents (Elt F)) (w : S1x64x16384.Idx → Elt F .f32) :
    (sbuf k).view.read (Elt F) (((Memref.whole cc1_scratch0).access (slotRect k)).write (Elt F) f w Finset.univ)
      = shapeCast S64x16384 w shapeCasts_S1x64x16384_S64x16384 := by
  have e := Memref.read_squeeze_slice (Val := Elt F) (Memref.whole cc1_scratch0) (slotRect k) (fun _ => rfl) squeezes_S1x64x16384_S64x16384 shapeCasts_S1x64x16384_S64x16384
    (((Memref.whole cc1_scratch0).access (slotRect k)).write (Elt F) f w Finset.univ)
  exact e.trans (congrArg (fun v => shapeCast S64x16384 v shapeCasts_S1x64x16384_S64x16384)
    (View.read_write_univ (v := (Memref.whole cc1_scratch0).access (slotRect k)) f w))

theorem filled (k : ℕ) (mm ss : Vec F S64x1 .f32) (f : (sbuf k).view.ty.Contents (Elt F)) (X : S64x16384.Idx → Elt F .f32) :
    (sbuf k).view.read (Elt F) (((Memref.whole cc1_scratch0).access (slotRect k)).write (Elt F) f
        (chunkOf mm ss ((Memref.whole cc1_scratch0).view.readAt (Elt F) (slotRect k).toLoadRect ((sbuf k).view.rep X))) Finset.univ)
      = scaled mm ss X := by
  rw [read_stored]
  unfold chunkOf
  rw [shapeCast_shapeCast]
  have e := Memref.read_squeeze_slice (Val := Elt F) (Memref.whole cc1_scratch0) (slotRect k) (fun _ => rfl) squeezes_S1x64x16384_S64x16384 shapeCasts_S1x64x16384_S64x16384
    ((sbuf k).view.rep X)
  rw [e.symm.trans (View.read_rep (sbuf k).view X)]
  rfl

end Cert.KernelIdeal.Halves

end
-- ==== Proof.Steps.lean ====
module

public import proofs.«01_k».proof.Proof.Fill

@[expose] public section

noncomputable section

/-! What a device holds between two steps of the second call's body, and the copies and waits the steps are made of. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

abbrev 𝒱₀ : Variants := Variants.none

variable (lg : Dev nD → main_v1.ty.Contents (Elt F)) (Y : Dev nD → ℕ → S64x16384.Idx → Elt F .f32)

/-- The kernel's receiving slot `x.2` on device `x.1`, as its invariant holds it. -/
def Sl (x : Dev nD × ℕ) : sProp 𝕄 := Release.slot ((rbuf x.2).view.loc (x.1 : Thread nD τ)) (rbuf x.2).view.set
instance Sl_storable (x : Dev nD × ℕ) : BI.Storable (upEmb : UEmb _ 𝕄) (Sl (F := F) x) := by unfold Sl; infer_instance

/-- A slot's invariant holds the chunk's receiving buffer. -/
theorem Sl_eq (d : Dev nD) (k : ℕ) : (Sl (F := F) (d, k % 4)) = iprop(∃ X, holds d (rbuf k) fullShare X) := by
  unfold Sl Release.slot
  rw [rbuf_of (k % 4) k (Nat.mod_mod _ _)]
  refine BI.Entails.antisymm (show iprop(∃ f, (rbuf k).view.loc (d : Thread nD τ) ↦[(rbuf k).view.set]{fullShare} f)
    ⊢ (iprop(∃ X, holds d (rbuf k) fullShare X) : sProp 𝕄) from ?_)
    (show (iprop(∃ X, holds d (rbuf k) fullShare X) : sProp 𝕄) ⊢ iprop(∃ f, (rbuf k).view.loc (d : Thread nD τ) ↦[(rbuf k).view.set]{fullShare} f) from ?_)
  · iintro ⟨%f, H⟩
    iexists (rbuf k).view.read (Elt F) f
    iapply (Entails.of_eq (holds_of d (rbuf k) fullShare f)) $$ H
  · iintro ⟨%X, H⟩
    iexists (rbuf k).view.rep X
    iexact H

/-- The invariants the steps open, at the names the launch chose; the levels; that the peer's credit cell is open. -/
structure World (κ : GSem nD τ sig → ℕ) (ιs : Dev nD × ℕ → ℕ) (c : Dev nD) (I : sProp 𝕄) : Prop where
  cells : ∀ d sm, roleOf sm ≠ .other → I ⊢ cellInv EB (Rd lg Y) (κ (cl d sm)) (cl d sm)
  slots : ∀ (d : Dev nD) s, s < 4 → I ⊢ Release.slotInv ES (ιs (d, s)) (d, s) (Sl (d, s))
  levels : I ⊢ levAts (SiteBlocks.L 40) SiteBlocks.lv
  credit : I ⊢ reached EB (cl (peer c) (.reg credS)) 0

/-- The position at the start of a round. -/
def pos (c : Dev nD) (sm : SemLoc sig) (n : ℕ) : sProp 𝕄 := iprop(atPos EB (cl c sm) n ∅ 0 ∗ reached EB (cl c sm) n)

/-! ## A local copy and its wait -/

variable {lg Y}

theorem copy_ok {κ : ℕ} (c : Dev nD) {sp sp' : Space} {src : Memref sig .tc sp S64x16384 .f32} {dst : Memref sig .tc sp' S64x16384 .f32} {sm : DmaSem sig}
    {x : Role} (hx : roleOf (.dma sm) = x) (hc : x.Chunked) {rd k : ℕ} (hk : k < 16) (e : x.chunk rd = k) {q : PosShare TreeShare} {X : S64x16384.Idx → Elt F .f32}
    (hN : dst.view.amount (.dma sm) = N) (hp : pay lg Y c k hk x = iprop(holds c dst fullShare X ∗ holds c src q X))
    {hsrc : src.view.WordExact} {hdst : dst.view.WordExact} {hsem : DmaTarget.Typed (nD := nD) (τ := τ) (p := .tc) sp (.dma sm) (.here dst)}
    {cont : PUnit → Prog (TpuEff nD τ sig (Elt F) Λ₀ .tc) PUnit} {Q : PUnit → sProp 𝕄} :
    iprop(cellInv EB (Rd lg Y) κ (cl c (.dma sm)) ∗ holds c src q X ∗ (∃ Z, holds c dst fullShare Z)
        ∗ dutyTok EB (cl c (.dma sm)) rd 0 ∗ reached EB (cl c (.dma sm)) rd)
      ⊢ iprop((cred (tallyAt (cl c (.dma sm)) 0 N) -∗ wp frame (wpE (defs₀ (F := F)) 𝒱₀ (c : Thread nD τ) none) Set.univ (cont ⟨⟩) Q)
        -∗ wp frame (wpE (defs₀ (F := F)) 𝒱₀ (c : Thread nD τ) none) Set.univ (.op (.enqueueDma src (.here dst) (.dma sm) hsrc hdst hsem) cont) Q) := by
  iintro ⟨#HI, Hs, ⟨%Z, Hd⟩, Ht, #Hr⟩
  iapply (Rounds.wp_copy_pointsTo 𝒱₀ EB (Rd lg Y) (c : Thread nD τ) none (src := src) (dst := dst) (sem := .dma sm) (q := q)
      (fs := src.view.rep X) (fd := dst.view.rep Z) (r := rd) (d := 0) (κ := κ)
      (mem_chunk lg Y hx hc rd k hk e) 0 N hN (amount_chunk lg Y hx hc rd 0)
      (by rw [landed, pay_chunk lg Y hx hc rd 0 k hk e, hp])) $$ [Hs Hd Ht]
  iframe
  isplitr; · iexact HI
  iexact Hr

theorem wait_chunk {κ : ℕ} (c : Dev nD) {sp sp' : Space} {src : Memref sig .tc sp S64x16384 .f32} {dst : Memref sig .tc sp' S64x16384 .f32} {sm : DmaSem sig}
    {x : Role} (hx : roleOf (.dma sm) = x) (hc : x.Chunked) {rd k : ℕ} (hk : k < 16) (e : x.chunk rd = k)
    (hN : dst.view.dmaCredit = N) (i s r : ℕ) (hi : i < 40) (hs : i < 4 + 2 * s) (hr : i < 5 + 2 * r)
    {hsrc : src.view.WordExact} {hdst : dst.view.WordExact}
    {cont : PUnit → Prog (TpuEff nD τ sig (Elt F) Λ₀ .tc) PUnit} {Q : PUnit → sProp 𝕄} :
    iprop(cellInv EB (Rd lg Y) κ (cl c (.dma sm)) ∗ levAts (SiteBlocks.L 40) SiteBlocks.lv ∗ cred (tallyAt (cl c (.dma sm)) i N)
        ∗ (∃ W, owes (c : Thread nD τ) (owed c s r) W) ∗ atPos EB (cl c (.dma sm)) rd ∅ 0)
      ⊢ iprop((((∃ W, owes (c : Thread nD τ) (owed c s r) W) ∗ pos c (.dma sm) (rd + 1) ∗ pay lg Y c k hk x)
          -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 sm src dst hsrc hdst) cont) Q) := by
  iintro ⟨#HI, #Hlev, Hc, ⟨%W, HO⟩, Hat⟩ Hk
  iapply (Rounds.wp_wait_rest_token 𝒱₀ EB (Rd lg Y) (c : Thread nD τ) none (κ := κ)
      (wpE_waitDma2_eq (src := src) (dst := dst) 𝒱₀ (c : Thread nD τ) none Set.univ) (Set.mem_univ _) i (O := owed c s r) (W := W) (R := rd) (m := 0) (T := ∅)
      ((Nat.zero_add _).trans (hN.trans (expect_chunk lg Y hx hc rd k hk e).symm))) $$ [Hc HO Hat]
  · rw [hN]
    isplitr; · iexact HI
    isplitl [Hc]; · iexact Hc
    isplitl [HO]; · iexact HO
    isplitr; · iapply (wait_ok c (.dma sm) i s r hi hs hr); iexact Hlev
    iexact Hat
  iintro ⟨HO, Hat, Hre, Hp⟩
  iapply Hk
  isplitl [HO]; · iexists _; iexact HO
  unfold pos
  isplitl [Hat Hre]; · isplitl [Hat] <;> iassumption
  iapply (Entails.of_eq (rest_chunk lg Y hx hc rd k hk e)) $$ Hp

theorem credit_sbuf (k : ℕ) : (sbuf k).view.dmaCredit = N := rfl
theorem credit_rbuf (k : ℕ) : (rbuf k).view.dmaCredit = N := rfl
theorem credit_outOwn (d : Dev nD) (k : ℕ) (hk : k < 16) : (outOwn d k hk).view.dmaCredit = N := rfl
theorem credit_outPeer (d : Dev nD) (k : ℕ) (hk : k < 16) : (outPeer d k hk).view.dmaCredit = N := rfl

theorem pay_stage (c : Dev nD) (k : ℕ) (hk : k < 16) (s : ℕ) : pay lg Y c k hk (.stage s)
    = iprop(holds c (sbuf k) fullShare ((logitsRows k hk).view.read (Elt F) (lg c)) ∗ holds c (logitsRows k hk) fullShare ((logitsRows k hk).view.read (Elt F) (lg c))) := rfl
theorem pay_loc (c : Dev nD) (k : ℕ) (hk : k < 16) : pay lg Y c k hk .loc
    = iprop(holds c (outPeer c k hk) fullShare (Y (peer c) k) ∗ holds c (rbuf k) fullShare (Y (peer c) k)) := rfl
theorem pay_out (c : Dev nD) (k : ℕ) (hk : k < 16) (s : ℕ) : pay lg Y c k hk (.out s)
    = iprop(holds c (outOwn c k hk) fullShare (Y c k) ∗ holds c (sbuf k) qR (Y c k)) := rfl
theorem pay_send (c : Dev nD) (k : ℕ) (hk : k < 16) (s : ℕ) : pay lg Y c k hk (.send s) = holds c (sbuf k) qL (Y c k) := rfl
theorem pay_recv (c : Dev nD) (k : ℕ) (hk : k < 16) (s : ℕ) : pay lg Y c k hk (.recv s) = holds c (rbuf k) fullShare (Y (peer c) k) := rfl

/-- A window of positions has its cells' rounds reached. -/
theorem fam_reached {c : Dev nD} {sm : ℕ → SemLoc sig} {n : ℕ → ℕ} {a b k : ℕ} (h : a < b) (ha : a ≤ k) (hb : k < b) :
    fam a b (fun k => pos c (sm k) (n k)) ⊢ (iprop(fam a b (fun k => pos c (sm k) (n k)) ∗ reached EB (cl c (sm k)) (n k)) : sProp 𝕄) := by
  have e : fam a b (fun k => pos (F := F) c (sm k) (n k)) = iprop(pos c (sm k) (n k) ∗ bigSep ((Finset.Ico a b).erase k) (fun k => pos c (sm k) (n k))) := by
    unfold fam
    rw [← Finset.insert_erase (Finset.mem_Ico.mpr ⟨ha, hb⟩)]
    rw [Finset.erase_insert (Finset.notMem_erase k _)]
    exact (BI.bigSep_insert (Finset.notMem_erase k _)).trans rfl
  rw [e]
  unfold pos
  iintro ⟨⟨H, #Hr⟩, H'⟩
  iframe
  isplitr <;> iexact Hr

/-! ## What a device holds -/

/-- The two columns of statistics, in their staging buffers. -/
def stats (c : Dev nD) (mf : mRef.view.ty.Contents (Elt F)) (sf : sRef.view.ty.Contents (Elt F)) : sProp 𝕄 :=
  iprop((mRef.view.loc (c : Thread nD τ) ↦[mRef.view.set]{fullShare} mf) ∗ (sRef.view.loc (c : Thread nD τ) ↦[sRef.view.set]{fullShare} sf))

variable (lg Y)
/-- What the device holds when it has staged `f` chunks, filled `g`, sent `s`, put `p`, received `r`, seen `ds` sends and `dd` puts end, and been given `w` credits. -/
def St (c : Dev nD) (mf : mRef.view.ty.Contents (Elt F)) (sf : sRef.view.ty.Contents (Elt F)) (f g s p r ds dd w : ℕ) : sProp 𝕄 :=
  iprop(
    -- staging
    fam f 16 (fun k => dutyTok EB (cl c (.dma (stageSem k))) (k / 2) 0)
    ∗ fam f (f + 2) (fun k => pos c (.dma (stageSem k)) (k / 2))
    ∗ fam f (dd + 2) (fun k => iprop(∃ X, holds c (sbuf k) fullShare X))
    ∗ fam g f (fun k => at16 k fun hk => holds c (sbuf k) fullShare ((logitsRows k hk).view.read (Elt F) (lg c)))
    ∗ fam s g (fun k => holds c (sbuf k) qL (Y c k))
    ∗ fam p g (fun k => holds c (sbuf k) qR (Y c k))
    -- sending
    ∗ fam s 16 (fun k => iprop(dutyTok EB (cl c (.dma (sendSem k))) (k / 2) 0 ∗ dutyTok EB (cl (peer c) (.dma (recvSem k))) (k / 4) 0
        ∗ Release.writeTok ES (peer c, k % 4) (k / 4 + 1)))
    ∗ fam ds s (fun k => cred (tallyAt (cl c (.dma (sendSem k))) 0 N))
    ∗ fam ds (ds + 2) (fun k => pos c (.dma (sendSem k)) (k / 2))
    ∗ fam dd ds (fun k => holds c (sbuf k) qL (Y c k))
    -- putting
    ∗ fam p 16 (fun k => dutyTok EB (cl c (.dma (outSem k))) (k / 2) 0)
    ∗ fam p 16 (fun k => at16 k fun hk => iprop(∃ X, holds c (outOwn c k hk) fullShare X))
    ∗ fam dd p (fun k => cred (tallyAt (cl c (.dma (outSem k))) 0 N))
    ∗ fam dd (dd + 2) (fun k => pos c (.dma (outSem k)) (k / 2))
    ∗ fam 0 dd (fun k => at16 k fun hk => holds c (outOwn c k hk) fullShare (Y c k))
    -- receiving
    ∗ fam r (r + 4) (fun k => pos c (.dma (recvSem k)) (k / 4))
    ∗ fam r 16 (fun k => cred (tallyAt (cl c (.dma (recvSem k))) (4 + 2 * k) N))
    ∗ pos c (.dma locSem) r
    ∗ fam r 16 (fun k => dutyTok EB (cl c (.dma locSem)) k 0)
    ∗ fam r 16 (fun k => at16 k fun hk => iprop(∃ X, holds c (outPeer c k hk) fullShare X))
    ∗ fam 0 r (fun k => at16 k fun hk => holds c (outPeer c k hk) fullShare (Y (peer c) k))
    ∗ fam r (r + 4) (fun k => Release.readerAt ES (c, k % 4) (k / 4 + 1))
    ∗ frees c (r + 4)
    -- credits
    ∗ fam r 16 (fun k => dutyTok EB (cl (peer c) (.reg credS)) 0 k)
    ∗ fam w 16 (fun k => cred (tallyAt (cl c (.reg credS)) (5 + 2 * k) 1))
    ∗ (∃ T, atPos EB (cl c (.reg credS)) 0 T w ∗ bigSep T (fun d => frees (peer c) (d + 5)))
    ∗ frees (peer c) (w + 4)
    -- what is read
    ∗ ptL lg c ∗ stats c mf sf
    ∗ (∃ W, owes (c : Thread nD τ) (owed c s r) W))
variable {lg Y}

/-- A weakest precondition of the second call's body on device `c`. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

theorem stage_ok {κ : GSem nD τ sig → ℕ} {ιs : Dev nD × ℕ → ℕ} {c : Dev nD} {I : sProp 𝕄} [BI.Persistent I] (hW : World lg Y κ ιs c I)
    {mf : mRef.view.ty.Contents (Elt F)} {sf : sRef.view.ty.Contents (Elt F)} {f g s p r ds dd w : ℕ} (hk : f < 16) (hg : g ≤ f) (hd : f < dd + 2) (Q : PUnit → sProp 𝕄) :
    iprop(I ∗ St lg Y c mf sf f g s p r ds dd w ∗ (St lg Y c mf sf (f + 1) g s p r ds dd w -∗ Q ⟨⟩)) ⊢ wpc c ((Item.stage f hk).prog c) Q := by
  show _ ⊢ wpc c (.op (.enqueueDma (logitsRows f hk) (.here (sbuf f)) (.dma (stageSem f)) (View.wordExact_bits rfl) ((View.wordExact_bits rfl).reshape _ _) ⟨Or.inl rfl, trivial⟩)
    fun _ => .op (.waitDma2 (stageSem f) (logitsRows f hk) (sbuf f) (View.wordExact_bits rfl) ((View.wordExact_bits rfl).reshape _ _)) .ret) Q
  unfold St wpc
  rw [fam_pop hk (fun k => dutyTok EB (cl c (.dma (stageSem k))) (k / 2) 0), fam_pop (show f < f + 2 by omega) (fun k => pos c (.dma (stageSem k)) (k / 2)),
    fam_pop hd (fun k => iprop(∃ X, holds c (sbuf k) fullShare X))]
  iintro ⟨#HI, ⟨⟨T1, H1⟩, ⟨T2, H2⟩, ⟨T3, H3⟩, H4, H5, H6, H7, H8, H9, H10, H11, H12, H13, H14, H15, H16, H17, H18, H19, H20, H21, H22, H23, H24, H25, H26, H27, H28, H29, H30⟩, Hk⟩
  ihave #Hc := (hW.cells c (.dma (stageSem f)) (by rw [role_stage]; exact fun h => by cases h)) $$ HI
  ihave #Hl := hW.levels $$ HI
  ihave HL := (lend lg c f hk) $$ H28
  icases HL with ⟨HL, HLk⟩
  unfold pos
  icases T2 with ⟨T2, #T2'⟩
  iapply (copy_ok (κ := κ (cl c (.dma (stageSem f)))) c (role_stage f) trivial hk (show 2 * (f / 2) + f % 2 = f by omega) (q := fullShare)
    (X := (logitsRows f hk).view.read (Elt F) (lg c)) (amount_sbuf f _) (pay_stage c f hk _)) $$ [HL T3 T1]
  · isplitr; · iexact Hc
    iframe
    iexact T2'
  iintro HC
  iapply (wait_chunk (κ := κ (cl c (.dma (stageSem f)))) c (role_stage f) trivial hk (show 2 * (f / 2) + f % 2 = f by omega) (credit_sbuf f) 0 s r (by omega) (by omega) (by omega)) $$ [HC H30 T2]
  · isplitr; · iexact Hc
    isplitr; · iexact Hl
    iframe
  rw [pay_stage]
  iintro ⟨HO, HP, HS, HL⟩
  ihave H28 := HLk $$ HL
  rw [wp_ret]
  imodintro
  iapply Hk
  rw [show f + 1 + 2 = f + 2 + 1 from rfl, fam_push (show f + 1 ≤ f + 2 by omega), fam_push hg, at16_eq hk]
  unfold pos
  rw [stageSem_of (f + 2) f (by omega), show (f + 2) / 2 = f / 2 + 1 by omega]
  iframe

theorem put_ok {κ : GSem nD τ sig → ℕ} {ιs : Dev nD × ℕ → ℕ} {c : Dev nD} {I : sProp 𝕄} [BI.Persistent I] (hW : World lg Y κ ιs c I)
    {mf : mRef.view.ty.Contents (Elt F)} {sf : sRef.view.ty.Contents (Elt F)} {f g s p r ds dd w : ℕ} (hk : p < 16) (hg : p < g) (hd : dd ≤ p) (hd' : p < dd + 2) (Q : PUnit → sProp 𝕄) :
    iprop(I ∗ St lg Y c mf sf f g s p r ds dd w ∗ (St lg Y c mf sf f g s (p + 1) r ds dd w -∗ Q ⟨⟩)) ⊢ wpc c ((Item.put p hk).prog c) Q := by
  show _ ⊢ wpc c (.op (.enqueueDma (sbuf p) (.here (outOwn c p hk)) (.dma (outSem p)) ((View.wordExact_bits rfl).reshape _ _) (View.wordExact_bits rfl) ⟨Or.inl rfl, trivial⟩) .ret) Q
  unfold St wpc
  rw [fam_pop hk (fun k => dutyTok EB (cl c (.dma (outSem k))) (k / 2) 0), fam_pop hk (fun k => at16 k fun hk => iprop(∃ X, holds c (outOwn c k hk) fullShare X)),
    fam_pop hg (fun k => holds c (sbuf k) qR (Y c k)), fam_push hd (fun k => cred (tallyAt (cl c (.dma (outSem k))) 0 N)), at16_eq hk]
  iintro ⟨#HI, ⟨H1, H2, H3, H4, H5, ⟨T6, H6⟩, H7, H8, H9, H10, ⟨T11, H11⟩, ⟨T12, H12⟩, H13, H14, H15, H16, H17, H18, H19, H20, H21, H22, H23, H24, H25, H26, H27, H28, H29, H30⟩, Hk⟩
  ihave #Hc := (hW.cells c (.dma (outSem p)) (by rw [role_out]; exact fun h => by cases h)) $$ HI
  ihave ⟨H14, #Hr⟩ := (show fam dd (dd + 2) (fun k => pos c (.dma (outSem k)) (k / 2)) ⊢ (iprop(fam dd (dd + 2) (fun k => pos c (.dma (outSem k)) (k / 2))
      ∗ reached EB (cl c (.dma (outSem p))) (p / 2)) : sProp 𝕄) from fam_reached (by omega) (by omega) (by omega)) $$ H14
  iapply (copy_ok (κ := κ (cl c (.dma (outSem p)))) c (role_out p) trivial hk (show 2 * (p / 2) + p % 2 = p by omega) (q := qR)
    (X := Y c p) (amount_outOwn c p hk _) (pay_out c p hk _)) $$ [T6 T11 T12]
  · isplitr; · iexact Hc
    iframe
    iexact Hr
  iintro HC
  rw [wp_ret]
  imodintro
  iapply Hk
  iframe

theorem done_ok {κ : GSem nD τ sig → ℕ} {ιs : Dev nD × ℕ → ℕ} {c : Dev nD} {I : sProp 𝕄} [BI.Persistent I] (hW : World lg Y κ ιs c I)
    {mf : mRef.view.ty.Contents (Elt F)} {sf : sRef.view.ty.Contents (Elt F)} {f g s p r ds dd w : ℕ} (hk : dd < 16) (hp : dd < p) (hs : dd < ds) (hf : f ≤ dd + 2) (Q : PUnit → sProp 𝕄) :
    iprop(I ∗ St lg Y c mf sf f g s p r ds dd w ∗ (St lg Y c mf sf f g s p r ds (dd + 1) w -∗ Q ⟨⟩)) ⊢ wpc c ((Item.done dd hk).prog c) Q := by
  show _ ⊢ wpc c (.op (.waitDma2 (outSem dd) (sbuf dd) (outOwn c dd hk) ((View.wordExact_bits rfl).reshape _ _) (View.wordExact_bits rfl)) .ret) Q
  unfold St wpc
  rw [fam_pop hp (fun k => cred (tallyAt (cl c (.dma (outSem k))) 0 N)), fam_pop (show dd < dd + 2 by omega) (fun k => pos c (.dma (outSem k)) (k / 2)),
    fam_pop hs (fun k => holds c (sbuf k) qL (Y c k))]
  iintro ⟨#HI, ⟨H1, H2, H3, H4, H5, H6, H7, H8, H9, ⟨T10, H10⟩, H11, H12, ⟨T13, H13⟩, ⟨T14, H14⟩, H15, H16, H17, H18, H19, H20, H21, H22, H23, H24, H25, H26, H27, H28, H29, H30⟩, Hk⟩
  ihave #Hc := (hW.cells c (.dma (outSem dd)) (by rw [role_out]; exact fun h => by cases h)) $$ HI
  ihave #Hl := hW.levels $$ HI
  unfold pos
  icases T14 with ⟨T14, -⟩
  iapply (wait_chunk (κ := κ (cl c (.dma (outSem dd)))) c (role_out dd) trivial hk (show 2 * (dd / 2) + dd % 2 = dd by omega) (credit_outOwn c dd hk) 0 s r (by omega) (by omega) (by omega)) $$ [T13 H30 T14]
  · isplitr; · iexact Hc
    isplitr; · iexact Hl
    iframe
  rw [pay_out]
  iintro ⟨HO, HP, HW, HS⟩
  rw [wp_ret]
  imodintro
  iapply Hk
  rw [show dd + 1 + 2 = dd + 2 + 1 from rfl, fam_push hf, fam_push (show dd + 1 ≤ dd + 2 by omega), fam_push (Nat.zero_le dd), at16_eq hk]
  unfold pos
  rw [outSem_of (dd + 2) dd (by omega), show (dd + 2) / 2 = dd / 2 + 1 by omega, sbuf_of (dd + 2) dd (by omega)]
  iframe
  iexists Y c dd
  iapply (holds_halves c (sbuf dd) (Y c dd)).2
  iframe

theorem sent_ok {κ : GSem nD τ sig → ℕ} {ιs : Dev nD × ℕ → ℕ} {c : Dev nD} {I : sProp 𝕄} [BI.Persistent I] (hW : World lg Y κ ιs c I)
    {mf : mRef.view.ty.Contents (Elt F)} {sf : sRef.view.ty.Contents (Elt F)} {f g s p r ds dd w : ℕ} (hk : ds < 16) (hp : ds < s) (hs : dd ≤ ds) (Q : PUnit → sProp 𝕄) :
    iprop(I ∗ St lg Y c mf sf f g s p r ds dd w ∗ (St lg Y c mf sf f g s p r (ds + 1) dd w -∗ Q ⟨⟩)) ⊢ wpc c ((Item.sent ds hk).prog c) Q := by
  show _ ⊢ wpc c (.op (.waitDma2 (sendSem ds) (rbuf ds) (sbuf ds) ((View.wordExact_bits rfl).reshape _ _) ((View.wordExact_bits rfl).reshape _ _)) .ret) Q
  unfold St wpc
  rw [fam_pop hp (fun k => cred (tallyAt (cl c (.dma (sendSem k))) 0 N)), fam_pop (show ds < ds + 2 by omega) (fun k => pos c (.dma (sendSem k)) (k / 2))]
  iintro ⟨#HI, ⟨H1, H2, H3, H4, H5, H6, H7, ⟨T8, H8⟩, ⟨T9, H9⟩, H10, H11, H12, H13, H14, H15, H16, H17, H18, H19, H20, H21, H22, H23, H24, H25, H26, H27, H28, H29, H30⟩, Hk⟩
  ihave #Hc := (hW.cells c (.dma (sendSem ds)) (by rw [role_send]; exact fun h => by cases h)) $$ HI
  ihave #Hl := hW.levels $$ HI
  unfold pos
  icases T9 with ⟨T9, -⟩
  iapply (wait_chunk (κ := κ (cl c (.dma (sendSem ds)))) c (role_send ds) trivial hk (show 2 * (ds / 2) + ds % 2 = ds by omega) (credit_sbuf ds) 0 s r (by omega) (by omega) (by omega)) $$ [T8 H30 T9]
  · isplitr; · iexact Hc
    isplitr; · iexact Hl
    iframe
  rw [pay_send]
  iintro ⟨HO, HP, HS⟩
  rw [wp_ret]
  imodintro
  iapply Hk
  rw [show ds + 1 + 2 = ds + 2 + 1 from rfl, fam_push hs, fam_push (show ds + 1 ≤ ds + 2 by omega)]
  unfold pos
  rw [sendSem_of (ds + 2) ds (by omega), show (ds + 2) / 2 = ds / 2 + 1 by omega]
  iframe

/-- The rows of a chunk are filled. -/
theorem fill_ok {κ : GSem nD τ sig → ℕ} {ιs : Dev nD × ℕ → ℕ} {c : Dev nD} {I : sProp 𝕄}  (_ : World lg Y κ ιs c I)
    {mf : mRef.view.ty.Contents (Elt F)} {sf : sRef.view.ty.Contents (Elt F)} {f g s p r ds dd w : ℕ} (hk : g < 16) (hg : g < f) (hs : s ≤ g) (hp : p ≤ g)
    (hY : Y c g = scaled (mRef.view.readAt (Elt F) (statRect g hk).toLoadRect mf) (sRef.view.readAt (Elt F) (statRect g hk).toLoadRect sf)
      ((logitsRows g hk).view.read (Elt F) (lg c))) (Q : PUnit → sProp 𝕄) :
    iprop(I ∗ St lg Y c mf sf f g s p r ds dd w ∗ (St lg Y c mf sf f (g + 1) s p r ds dd w -∗ Q ⟨⟩)) ⊢ wpc c ((Item.fill g hk).prog c) Q := by
  unfold Item.prog wpc
  rw [wp_bind]
  unfold St stats
  rw [fam_pop hg, at16_eq hk]
  iintro ⟨-, ⟨H1, H2, H3, ⟨T4, H4⟩, H5, H6, H7, H8, H9, H10, H11, H12, H13, H14, H15, H16, H17, H18, H19, H20, H21, H22, H23, H24, H25, H26, H27, H28, ⟨Hm, Hs⟩, H30⟩, Hk⟩
  iapply (wp_load 𝒱₀ (c : Thread nD τ) none Set.univ (m := mRef) (r := (statRect g hk).toLoadRect) (View.setOn_subset_set _ _)) $$ Hm
  iintro Hm
  rw [wp_ret]
  imodintro
  rw [wp_bind]
  iapply (wp_load 𝒱₀ (c : Thread nD τ) none Set.univ (m := sRef) (r := (statRect g hk).toLoadRect) (View.setOn_subset_set _ _)) $$ Hs
  iintro Hs
  rw [wp_ret]
  imodintro
  rw [wp_bind]
  iapply (wp_load 𝒱₀ (c : Thread nD τ) none Set.univ (m := Memref.whole cc1_scratch0) (r := (slotRect g).toLoadRect) (load_sub g)) $$ T4
  iintro T4
  rw [wp_ret]
  imodintro
  rw [wp_bind]
  iapply (wp_load 𝒱₀ (c : Thread nD τ) none Set.univ (m := Memref.whole cc1_scratch0) (r := (slotRect g).toLoadRect) (load_sub g)) $$ T4
  iintro T4
  rw [wp_ret]
  imodintro
  iapply (wp_store 𝒱₀ (c : Thread nD τ) none Set.univ (m := Memref.whole cc1_scratch0) (r := slotRect g) (Mk := Finset.univ) (store_sub g)) $$ T4
  iintro T4
  ihave T4 := (Entails.of_eq ((holds_of c (sbuf g) fullShare _).trans (congrArg (holds c (sbuf g) fullShare) ((filled g _ _ _ _).trans hY.symm)))) $$ T4
  icases (holds_halves c (sbuf g) (Y c g)).1 $$ T4 with ⟨T5, T6⟩
  rw [wp_ret]
  imodintro
  iapply Hk
  rw [fam_push hs, fam_push hp]
  iframe

end Cert.KernelIdeal.Halves

end
-- ==== Proof.Sends.lean ====
module

public import proofs.«01_k».proof.Proof.Steps

@[expose] public section

noncomputable section

/-! The steps of the second call's body that talk to the peer: a chunk sent, a chunk received, credits waited for. Then the whole list of steps. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {lg : Dev nD → main_v1.ty.Contents (Elt F)} {Y : Dev nD → ℕ → S64x16384.Idx → Elt F .f32}
variable {κ : GSem nD τ sig → ℕ} {ιs : Dev nD × ℕ → ℕ} {c : Dev nD}
variable {mf : mRef.view.ty.Contents (Elt F)} {sf : sRef.view.ty.Contents (Elt F)} {f g s p r ds dd w : ℕ}

theorem frees_succ (b : Dev nD) (n : ℕ) : (frees (F := F) b (n + 1)) = iprop(free b n ∗ frees b n) := by
  unfold frees
  rw [Finset.range_add_one]
  exact (BI.bigSep_insert Finset.notMem_range_self).trans rfl
theorem frees_free {b : Dev nD} {n j : ℕ} (h : j < n) : (frees (F := F) b n) ⊢ free b j := BI.bigSep_elim (Finset.mem_range.mpr h)
theorem frees_le {b : Dev nD} {n j : ℕ} (h : j ≤ n) : (frees (F := F) b n) ⊢ frees b j := BI.bigSep_subset (Finset.range_mono h)

/-- A receiving slot that was released may be taken by who writes next. -/
theorem take_slot {I : sProp 𝕄} [BI.Persistent I] (hW : World lg Y κ ιs c I) (b : Dev nD) (k n : ℕ) :
    iprop(I ∗ Release.released ES (b, k % 4) n ∗ Release.writeTok ES (b, k % 4) n) ⊢ (|={Set.univ}=> ∃ Z, holds b (rbuf k) fullShare Z : sProp 𝕄) := by
  rw [← Sl_eq b k]
  iintro ⟨#HI, Hr, Hw⟩
  iapply (Release.slot_take ES (Set.mem_univ (ιs (b, k % 4))) n)
  isplitr; · iapply (hW.slots b (k % 4) (Nat.mod_lt _ (by decide))); iexact HI
  isplitl [Hr] <;> iassumption

theorem Sl_nonempty (k : ℕ) : (rbuf k).view.set.Nonempty :=
  View.set_nonempty (by decide)

theorem Sl_false (x : Dev nD × ℕ) : iprop(Sl (F := F) x ∗ Sl x) ⊢ (False : sProp 𝕄) := by
  unfold Sl; exact Release.slot_slot_false (Sl_nonempty x.2)

/-- A receiving slot is given back. -/
theorem give_slot {I : sProp 𝕄} [BI.Persistent I] (hW : World lg Y κ ιs c I) (b : Dev nD) (k n : ℕ) :
    iprop(I ∗ Release.readerAt ES (b, k % 4) n ∗ (∃ Z, holds b (rbuf k) fullShare Z))
      ⊢ (|={Set.univ}=> (Release.readerAt ES (b, k % 4) (n + 1) ∗ Release.released ES (b, k % 4) (n + 1)) : sProp 𝕄) := by
  rw [← Sl_eq b k]
  iintro ⟨#HI, Hr, Hw⟩
  iapply (Release.slot_release ES (Set.mem_univ (ιs (b, k % 4))) (Sl_false _) n)
  isplitr; · iapply (hW.slots b (k % 4) (Nat.mod_lt _ (by decide))); iexact HI
  isplitl [Hr] <;> iassumption

theorem send_gen {I : sProp 𝕄} [BI.Persistent I] (hW : World lg Y κ ιs c I) {p' : Dev nD} (hp : p' = peer c) {k : ℕ} (hk : k < 16) (r : ℕ)
    {hsc : (rbuf k).view.ref.isScScratch = false}
    {hsrc : (sbuf k).view.WordExact} {hdst : (rbuf k).view.WordExact}
    {hsem : DmaTarget.Typed (nD := nD) (τ := τ) (p := .tc) .vmem (.dma (recvSem k)) (.remote (Dev.tc p') (rbuf k) (.dma (sendSem k)) hsc)}
    {cont : PUnit → Prog (TpuEff nD τ sig (Elt F) Λ₀ .tc) PUnit} {Q : PUnit.{1} → sProp 𝕄} :
    iprop(I ∗ holds c (sbuf k) qL (Y c k) ∗ (∃ Z, holds (peer c) (rbuf k) fullShare Z) ∗ (∃ W, owes (c : Thread nD τ) (owed c k r) W)
        ∗ dutyTok EB (cl c (.dma (sendSem k))) (k / 2) 0 ∗ reached EB (cl c (.dma (sendSem k))) (k / 2)
        ∗ dutyTok EB (cl (peer c) (.dma (recvSem k))) (k / 4) 0 ∗ reached EB (cl (peer c) (.dma (recvSem k))) (k / 4))
      ⊢ iprop(((cred (tallyAt (cl c (.dma (sendSem k))) 0 N) ∗ (∃ W, owes (c : Thread nD τ) (owed c (k + 1) r) W)) -∗ wpc c (cont ⟨⟩) Q)
        -∗ wpc c (.op (.enqueueDma (sbuf k) (.remote (Dev.tc p') (rbuf k) (.dma (sendSem k)) hsc) (.dma (recvSem k)) hsrc hdst hsem) cont) Q) := by
  subst hp
  iintro ⟨#HI, Hs, ⟨%Z, Hd⟩, ⟨%W, HO⟩, Ht, #Hr, Ht', #Hr'⟩ Hk
  ihave #Hc := (hW.cells c (.dma (sendSem k)) (by rw [role_send]; exact fun h => by cases h)) $$ HI
  ihave #Hc' := (hW.cells (peer c) (.dma (recvSem k)) (by rw [role_recv]; exact fun h => by cases h)) $$ HI
  iapply (Rounds.wp_send_pointsTo 𝒱₀ EB (Rd lg Y) (c : Thread nD τ) none (c' := (peer c : Thread nD τ)) (src := sbuf k) (dst := rbuf k) (sS := .dma (sendSem k))
      (sem := .dma (recvSem k)) (q := qL) (fs := (sbuf k).view.rep (Y c k)) (fd := (rbuf k).view.rep Z) (r₁ := k / 2) (r₂ := k / 4) (d₁ := 0) (d₂ := 0)
      (κ₁ := κ (cl c (.dma (sendSem k)))) (κ₂ := κ (cl (peer c) (.dma (recvSem k))))
      (mem_chunk lg Y (role_send k) trivial _ k hk (show 2 * (k / 2) + k % 2 = k by omega))
      (mem_chunk lg Y (role_recv k) trivial _ k hk (show 4 * (k / 4) + k % 4 = k by omega)) (4 + 2 * k) 0 N (amount_rbuf k _)
      (amount_chunk lg Y (role_send k) trivial _ _) (amount_chunk lg Y (role_recv k) trivial _ _) (owed c (k + 1) r) (owed_send c hk r) (W := W)
      (by rw [pay_chunk lg Y (role_send k) trivial _ _ k hk (show 2 * (k / 2) + k % 2 = k by omega), pay_send])
      (by rw [landed (peer c) (rbuf k) (sbuf k), pay_chunk lg Y (role_recv k) trivial _ _ k hk (show 4 * (k / 4) + k % 4 = k by omega), pay_recv, peer_peer]))
      $$ [Hs Hd HO Ht Ht']
  · isplitr; · iexact Hc
    isplitr; · iexact Hc'
    iframe
    isplitr <;> iassumption
  iintro ⟨H1, HO⟩
  iapply Hk
  iframe
  iexists W
  iexact HO

theorem send_ok {I : sProp 𝕄} [BI.Persistent I] (hW : World lg Y κ ιs c I) (hk : s < 16) (hg : s < g) (hd : ds ≤ s) (hs : s < ds + 2) (hw : s < w + 4) (Q : PUnit.{1} → sProp 𝕄) :
    iprop(I ∗ St lg Y c mf sf f g s p r ds dd w ∗ (St lg Y c mf sf f g (s + 1) p r ds dd w -∗ Q ⟨⟩)) ⊢ wpc c ((Item.send s hk).prog c) Q := by
  show _ ⊢ wpc c (.op (.enqueueDma (sbuf s) (.remote (Dev.tc (⟨sendDev s c, sendDev_lt s c⟩ : Dev nD)) (rbuf s) (.dma (sendSem s))) (.dma (recvSem s)) ((View.wordExact_bits rfl).reshape _ _) ((View.wordExact_bits rfl).reshape _ _) ⟨⟨rfl, Or.inl rfl⟩, trivial⟩) .ret) Q
  unfold St
  rw [fam_pop hk (fun k => iprop(dutyTok EB (cl c (.dma (sendSem k))) (k / 2) 0 ∗ dutyTok EB (cl (peer c) (.dma (recvSem k))) (k / 4) 0
        ∗ Release.writeTok ES (peer c, k % 4) (k / 4 + 1))), fam_pop hg (fun k => holds c (sbuf k) qL (Y c k)),
    fam_push hd (fun k => cred (tallyAt (cl c (.dma (sendSem k))) 0 N))]
  iintro ⟨#HI, ⟨H1, H2, H3, H4, ⟨T5, H5⟩, H6, ⟨⟨Ta, Tb, Tw⟩, H7⟩, H8, H9, H10, H11, H12, H13, H14, H15, H16, H17, H18, H19, H20, H21, H22, H23, H24, H25, H26, #Hf, H28, H29, H30⟩, Hk⟩
  ihave ⟨H9, #Hr⟩ := (show fam ds (ds + 2) (fun k => pos c (.dma (sendSem k)) (k / 2)) ⊢ (iprop(fam ds (ds + 2) (fun k => pos c (.dma (sendSem k)) (k / 2))
      ∗ reached EB (cl c (.dma (sendSem s))) (s / 2)) : sProp 𝕄) from fam_reached (by omega) (by omega) (by omega)) $$ H9
  ihave Hfs := (frees_free hw) $$ Hf
  unfold free
  icases Hfs with ⟨#Hrel, #Hr'⟩
  imod (take_slot hW (peer c) s (s / 4 + 1)) $$ [Tw] with Hd
  · isplitr; · iexact HI
    iframe
    iexact Hrel
  iapply (send_gen hW (Fin.ext (sendDev_eq s c)) hk r) $$ [T5 Hd H30 Ta Tb]
  · isplitr; · iexact HI
    iframe
    isplitr <;> iassumption
  iintro ⟨Hc, HO⟩
  unfold wpc
  rw [wp_ret]
  imodintro
  iapply Hk
  iframe
  iexact Hf

/-- A credit given to the peer. -/
theorem credit_gen {I : sProp 𝕄} [BI.Persistent I] (hW : World lg Y κ ιs c I) {p' : Dev nD} (hp : p' = peer c) {r : ℕ} (hr : r < 16) (s : ℕ)
    {cont : PUnit → Prog (TpuEff nD τ sig (Elt F) Λ₀ .tc) PUnit} {Q : PUnit.{1} → sProp 𝕄} :
    iprop(I ∗ (∃ W, owes (c : Thread nD τ) (owed c s r) W) ∗ dutyTok EB (cl (peer c) (.reg credS)) 0 r ∗ frees c (r + 5))
      ⊢ iprop(((∃ W, owes (c : Thread nD τ) (owed c s (r + 1)) W) -∗ wpc c (cont ⟨⟩) Q)
        -∗ wpc c (.op (.semSignal ((p' : Dev nD) : Thread nD τ) credS ((1 : ℕ) : ℤ)) cont) Q) := by
  subst hp
  iintro ⟨#HI, ⟨%W, HO⟩, Ht, Hf⟩ Hk
  ihave #Hc := (hW.cells (peer c) (.reg credS) (by rw [role_credit]; exact fun h => by cases h)) $$ HI
  ihave #Hr := hW.credit $$ HI
  iapply (Rounds.wp_signal 𝒱₀ EB (Rd lg Y) (c : Thread nD τ) none (dst := (peer c : Thread nD τ)) (sem := credS) (r := 0) (d := r) (k' := 1)
      (κ := κ (cl (peer c) (.reg credS))) (by rw [duties_credit]; exact Finset.mem_range.mpr hr) (amount_credit lg Y _ _ _) (5 + 2 * r)
      (owed c s (r + 1)) (owed_credit c s hr) (W := W)) $$ [HO Ht Hf]
  · rw [payload_credit, peer_peer]
    isplitr; · iexact Hc
    iframe
    iexact Hr
  iintro HO
  iapply Hk
  iexists W
  iexact HO

theorem recv_ok {I : sProp 𝕄} [BI.Persistent I] (hW : World lg Y κ ιs c I) (hk : r < 16) (hs : r < s) (Q : PUnit.{1} → sProp 𝕄) :
    iprop(I ∗ St lg Y c mf sf f g s p r ds dd w ∗ (St lg Y c mf sf f g s p (r + 1) ds dd w -∗ Q ⟨⟩)) ⊢ wpc c ((Item.recv r hk).prog c) Q := by
  show _ ⊢ wpc c (.op (.waitDma2 (recvSem r) (sbuf 0) (rbuf r) ((View.wordExact_bits rfl).reshape _ _) ((View.wordExact_bits rfl).reshape _ _)) fun _ =>
    .op (.enqueueDma (rbuf r) (.here (outPeer c r hk)) (.dma locSem) ((View.wordExact_bits rfl).reshape _ _) (View.wordExact_bits rfl) ⟨Or.inl rfl, trivial⟩) fun _ =>
    .op (.waitDma2 locSem (rbuf r) (outPeer c r hk) ((View.wordExact_bits rfl).reshape _ _) (View.wordExact_bits rfl)) fun _ =>
    .op (.semSignal ((⟨credDev r c, credDev_lt r c⟩ : Dev nD) : Thread nD τ) credS ((1 : ℕ) : ℤ)) .ret) Q
  unfold St
  rw [fam_pop (show r < r + 4 by omega) (fun k => pos c (.dma (recvSem k)) (k / 4)), fam_pop hk (fun k => cred (tallyAt (cl c (.dma (recvSem k))) (4 + 2 * k) N)),
    fam_pop hk (fun k => dutyTok EB (cl c (.dma locSem)) k 0), fam_pop hk (fun k => at16 k fun hk => iprop(∃ X, holds c (outPeer c k hk) fullShare X)),
    fam_pop (show r < r + 4 by omega) (fun k => Release.readerAt ES (c, k % 4) (k / 4 + 1)), fam_pop hk (fun k => dutyTok EB (cl (peer c) (.reg credS)) 0 k),
    at16_eq hk]
  iintro ⟨#HI, ⟨H1, H2, H3, H4, H5, H6, H7, H8, H9, H10, H11, H12, H13, H14, H15, ⟨T16, H16⟩, ⟨T17, H17⟩, H18, ⟨T19, H19⟩, ⟨T20, H20⟩, H21, ⟨T22, H22⟩, #Hf, ⟨T24, H24⟩, H25, H26, H27, H28, H29, H30⟩, Hk⟩
  ihave #Hl := hW.levels $$ HI
  ihave #Hc := (hW.cells c (.dma (recvSem r)) (by rw [role_recv]; exact fun h => by cases h)) $$ HI
  unfold pos
  icases T16 with ⟨T16, -⟩
  iapply (wait_chunk (κ := κ (cl c (.dma (recvSem r)))) c (role_recv r) trivial hk (show 4 * (r / 4) + r % 4 = r by omega) (credit_rbuf r) (4 + 2 * r) s r (by omega) (by omega) (by omega)) $$ [T17 H30 T16]
  · isplitr; · iexact Hc
    isplitr; · iexact Hl
    iframe
  rw [pay_recv]
  iintro ⟨HO, HP, HB⟩
  ihave #Hc' := (hW.cells c (.dma locSem) (by rw [role_loc]; exact fun h => by cases h)) $$ HI
  icases H18 with ⟨Hat, #Hr⟩
  iapply (copy_ok (κ := κ (cl c (.dma locSem))) c role_loc trivial hk rfl (q := fullShare)
    (X := Y (peer c) r) (amount_outPeer c r hk _) (pay_loc c r hk)) $$ [HB T20 T19]
  · isplitr; · iexact Hc'
    iframe
    iexact Hr
  iintro HC
  iapply (wait_chunk (κ := κ (cl c (.dma locSem))) c role_loc trivial hk rfl (credit_outPeer c r hk) 0 s r (by omega) (by omega) (by omega)) $$ [HC HO Hat]
  · isplitr; · iexact Hc'
    isplitr; · iexact Hl
    iframe
  rw [pay_loc]
  iintro ⟨HO, HP', HU, HB⟩
  imod (give_slot hW c r (r / 4 + 1)) $$ [T22 HB] with ⟨HR, #HR'⟩
  · isplitr; · iexact HI
    iframe
    iexists Y (peer c) r
    iexact HB
  unfold pos
  icases HP with ⟨HP, #HPr⟩
  ihave #Hf5 := (show iprop(Release.released ES (c, r % 4) (r / 4 + 1 + 1) ∗ reached EB (cl c (.dma (recvSem r))) (r / 4 + 1) ∗ frees c (r + 4)) ⊢ (frees c (r + 5) : sProp 𝕄) from by
    rw [frees_succ c (r + 4)]
    unfold free
    rw [recvSem_of (r + 4) r (by omega), show (r + 4) % 4 = r % 4 by omega, show (r + 4) / 4 = r / 4 + 1 by omega]
    iintro ⟨H1, H2, H3⟩
    iframe) $$ []
  · iframe
    isplitr; · iexact HR'
    isplitr; · iexact HPr
    iexact Hf
  iapply (credit_gen hW (Fin.ext (credDev_eq r c)) hk s) $$ [HO T24]
  · isplitr; · iexact HI
    iframe
    iexact Hf5
  iintro HO
  unfold wpc
  rw [wp_ret]
  imodintro
  iapply Hk
  rw [show r + 1 + 4 = r + 4 + 1 from rfl, fam_push (show r + 1 ≤ r + 4 by omega), fam_push (Nat.zero_le r), fam_push (show r + 1 ≤ r + 4 by omega), at16_eq hk]
  rw [recvSem_of (r + 4) r (by omega), show (r + 4) % 4 = r % 4 by omega, show (r + 4) / 4 = r / 4 + 1 by omega]
  iframe
  isplitr; · iexact HPr
  iexact Hf5

theorem credit_ok {I : sProp 𝕄} [BI.Persistent I] (hW : World lg Y κ ιs c I) (hw : w < 12) (hs : w < s) (hr : w < r) (Q : PUnit.{1} → sProp 𝕄) :
    iprop(I ∗ St lg Y c mf sf f g s p r ds dd w ∗ (St lg Y c mf sf f g s p r ds dd (w + 1) -∗ Q ⟨⟩)) ⊢ wpc c (Item.credit.prog c) Q := by
  show _ ⊢ wpc c (.op (.semWait credS ((1 : ℕ) : ℤ)) .ret) Q
  unfold St
  rw [fam_pop (show w < 16 by omega) (fun k => cred (tallyAt (cl c (.reg credS)) (5 + 2 * k) 1))]
  iintro ⟨#HI, ⟨H1, H2, H3, H4, H5, H6, H7, H8, H9, H10, H11, H12, H13, H14, H15, H16, H17, H18, H19, H20, H21, H22, H23, H24, ⟨T25, H25⟩, ⟨%T, Hat, #HT⟩, #Hf, H28, H29, ⟨%W, HO⟩⟩, Hk⟩
  ihave #Hl := hW.levels $$ HI
  ihave #Hc := (hW.cells c (.reg credS) (by rw [role_credit]; exact fun h => by cases h)) $$ HI
  iapply (Rounds.wp_wait 𝒱₀ EB (Rd lg Y) (c : Thread nD τ) none (κ := κ (cl c (.reg credS)))
      (wpE_semWait_eq 𝒱₀ (c : Thread nD τ) none Set.univ (sem := credS) (k := 1)) (Set.mem_univ _) (cr := Finsupp.single (5 + 2 * w) 1) (O := owed c s r) (W := W)
      {((.reg credS : SemLoc sig), 5 + 2 * w)} (R := 0) (m := w) (T := T) (Util.total_single _ _) (image_single_subset _ _ _)) $$ [T25 HO Hat]
  · isplitr; · iexact Hc
    isplitl [T25]; · iexact T25
    isplitl [HO]; · iexact HO
    isplitr [Hat]; swap; · iexact Hat
    iapply (wait_ok c (.reg credS) (5 + 2 * w) s r (by omega) (by omega) (by omega)); iexact Hl
  rw [duties_credit, expect_credit]
  iintro %S ⟨%hS, HO, Hat, HS⟩
  obtain ⟨h1, h2, h3⟩ := hS
  have h4 : ∃ k ∈ S, w ≤ k := by
    by_contra hn
    simp only [not_exists, not_and, not_le] at hn
    have : S ⊆ Finset.range w := fun x hx => Finset.mem_range.mpr (hn x hx)
    have := Finset.card_le_card this
    have h5 := Finset.card_sdiff_add_card_eq_card h2
    rw [Finset.card_range] at this h5
    omega
  obtain ⟨k, hkS, hwk⟩ := h4
  ihave #HS' := (show iprop(bigSep (S \ T) (fun d => (Rd lg Y).payload (cl c (.reg credS)) 0 d) ∗ bigSep T (fun d => frees (peer c) (d + 5)))
      ⊢ (bigSep S (fun d => frees (peer c) (d + 5)) : sProp 𝕄) from by
    rw [bigSep_congr (fun d _ => payload_credit lg Y c 0 d)]
    have e : bigSep S (fun d => frees (F := F) (peer c) (d + 5)) = iprop(bigSep T (fun d => frees (peer c) (d + 5)) ∗ bigSep (S \ T) (fun d => frees (peer c) (d + 5))) :=
      BI.bigSep_sdiff_split h1
    rw [e]
    iintro ⟨Ha, Hb⟩
    iframe) $$ [HS]
  · iframe
    iexact HT
  ihave #Hf' := (show bigSep S (fun d => frees (peer c) (d + 5)) ⊢ (frees (peer c) (w + 5) : sProp 𝕄) from (BI.bigSep_elim hkS).trans (frees_le (by omega))) $$ HS'
  rw [wp_ret]
  imodintro
  iapply Hk
  iframe
  isplitl [Hat]
  · iexists S
    iframe
    iexact HS'
  isplitr; · iexact Hf'
  iexists _
  iexact HO

/-- The last four credits' claims, as one. -/
theorem last_cred (c : Dev nD) : fam 12 16 (fun k => cred (tallyAt (cl c (.reg credS)) (5 + 2 * k) 1))
    ⊢ (cred (tallyOn (cl c (.reg credS)) (Finsupp.single 29 1 + (Finsupp.single 31 1 + (Finsupp.single 33 1 + Finsupp.single 35 1)))) : sProp 𝕄) := by
  rw [tallyOn_add, tallyOn_add, tallyOn_add, fam_pop (by decide), fam_pop (by decide), fam_pop (by decide), fam_pop (by decide), fam_empty (by decide)]
  iintro ⟨H1, H2, H3, H4, -⟩
  iapply (cred_add _ _).2
  isplitl [H1]; · iexact H1
  iapply (cred_add _ _).2
  isplitl [H2]; · iexact H2
  iapply (cred_add _ _).2
  isplitl [H3]; · iexact H3
  iexact H4

variable (lg Y)
/-- What the device holds when all the steps are done. -/
def Done (c : Dev nD) (mf : mRef.view.ty.Contents (Elt F)) (sf : sRef.view.ty.Contents (Elt F)) : sProp 𝕄 :=
  iprop(fam 16 18 (fun k => pos c (.dma (stageSem k)) (k / 2)) ∗ fam 16 18 (fun k => iprop(∃ X, holds c (sbuf k) fullShare X))
    ∗ fam 16 18 (fun k => pos c (.dma (sendSem k)) (k / 2)) ∗ fam 16 18 (fun k => pos c (.dma (outSem k)) (k / 2))
    ∗ fam 0 16 (fun k => at16 k fun hk => holds c (outOwn c k hk) fullShare (Y c k))
    ∗ fam 16 20 (fun k => pos c (.dma (recvSem k)) (k / 4)) ∗ pos c (.dma locSem) 16
    ∗ fam 0 16 (fun k => at16 k fun hk => holds c (outPeer c k hk) fullShare (Y (peer c) k))
    ∗ frees c 20 ∗ atPos EB (cl c (.reg credS)) 1 ∅ 0
    ∗ ptL lg c ∗ stats c mf sf ∗ (∃ W, owes (c : Thread nD τ) 0 W))
variable {lg Y}

/-- The last wait for credits. -/
theorem credits_ok {I : sProp 𝕄} [BI.Persistent I] (hW : World lg Y κ ιs c I) (Q : PUnit.{1} → sProp 𝕄) :
    iprop(I ∗ St lg Y c mf sf 16 16 16 16 16 16 16 12 ∗ (Done lg Y c mf sf -∗ Q ⟨⟩)) ⊢ wpc c (Item.credits.prog c) Q := by
  show _ ⊢ wpc c (.op (.semWait credS ((4 : ℕ) : ℤ)) .ret) Q
  unfold St
  rw [owed_none]
  iintro ⟨#HI, ⟨H1, H2, H3, H4, H5, H6, H7, H8, H9, H10, H11, H12, H13, H14, H15, H16, H17, H18, H19, H20, H21, H22, H23, H24, H25, ⟨%T, Hat, -⟩, -, H28, H29, ⟨%W, HO⟩⟩, Hk⟩
  ihave H25 := (last_cred c) $$ H25
  ihave #Hc := (hW.cells c (.reg credS) (by rw [role_credit]; exact fun h => by cases h)) $$ HI
  iapply (Rounds.wp_wait_rest 𝒱₀ EB (Rd lg Y) (c : Thread nD τ) none (κ := κ (cl c (.reg credS)))
      (wpE_semWait_eq 𝒱₀ (c : Thread nD τ) none Set.univ (sem := credS) (k := 4)) (Set.mem_univ _)
      (cr := Finsupp.single 29 1 + (Finsupp.single 31 1 + (Finsupp.single 33 1 + Finsupp.single 35 1))) (O := 0) (W := W)
      ((Finsupp.single 29 1 + (Finsupp.single 31 1 + (Finsupp.single 33 1 + Finsupp.single 35 1)) : ℕ →₀ ℕ).support.image ((.reg credS : SemLoc sig), ·))
      (R := 0) (m := 12) (T := T) (expect_credit lg Y c).symm (by rw [Util.total_add, Util.total_add, Util.total_add, Util.total_single, Util.total_single, Util.total_single, Util.total_single]) subset_rfl) $$ [H25 HO Hat]
  · rw [MayOwe_zero]
    isplitr; · iexact Hc
    iframe
    iempintro
  iintro ⟨HO, Hat, -, -⟩
  rw [wp_ret]
  imodintro
  iapply Hk
  unfold Done
  iframe
  iexists _
  iexact HO

/-- The counters of the steps. -/
structure Ctr where
  f : ℕ
  g : ℕ
  s : ℕ
  p : ℕ
  r : ℕ
  ds : ℕ
  dd : ℕ
  w : ℕ

/-- When a step may be taken. -/
def Item.Ok (a : Ctr) : Item → Prop
  | .stage k _ => k = a.f ∧ a.g ≤ a.f ∧ a.f < a.dd + 2
  | .fill k _ => k = a.g ∧ a.g < a.f ∧ a.s ≤ a.g ∧ a.p ≤ a.g
  | .send k _ => k = a.s ∧ a.s < a.g ∧ a.ds ≤ a.s ∧ a.s < a.ds + 2 ∧ a.s < a.w + 4
  | .put k _ => k = a.p ∧ a.p < a.g ∧ a.dd ≤ a.p ∧ a.p < a.dd + 2
  | .recv k _ => k = a.r ∧ a.r < a.s
  | .sent k _ => k = a.ds ∧ a.ds < a.s ∧ a.dd ≤ a.ds
  | .done k _ => k = a.dd ∧ a.dd < a.p ∧ a.dd < a.ds ∧ a.f ≤ a.dd + 2
  | .credit => a.w < 12 ∧ a.w < a.s ∧ a.w < a.r
  | .credits => False
instance (a : Ctr) : DecidablePred (Item.Ok a) := fun i => by cases i <;> unfold Item.Ok <;> infer_instance

/-- The counters after a step. -/
def Item.next (a : Ctr) : Item → Ctr
  | .stage .. => { a with f := a.f + 1 }
  | .fill .. => { a with g := a.g + 1 }
  | .send .. => { a with s := a.s + 1 }
  | .put .. => { a with p := a.p + 1 }
  | .recv .. => { a with r := a.r + 1 }
  | .sent .. => { a with ds := a.ds + 1 }
  | .done .. => { a with dd := a.dd + 1 }
  | .credit => { a with w := a.w + 1 }
  | .credits => a

/-- The steps may be taken one after the other, up to the last wait for credits. -/
def allOk : Ctr → List Item → Bool
  | a, [.credits] => decide (a.f = 16 ∧ a.g = 16 ∧ a.s = 16 ∧ a.p = 16 ∧ a.r = 16 ∧ a.ds = 16 ∧ a.dd = 16 ∧ a.w = 12)
  | _, [] => false
  | a, i :: l => decide (i.Ok a) && allOk (i.next a) l

theorem items_ok : allOk ⟨0, 0, 0, 0, 0, 0, 0, 0⟩ items = true := by decide +kernel

theorem step_ok {I : sProp 𝕄} [BI.Persistent I] (hW : World lg Y κ ιs c I)
    (hY : ∀ k hk, Y c k = scaled (mRef.view.readAt (Elt F) (statRect k hk).toLoadRect mf) (sRef.view.readAt (Elt F) (statRect k hk).toLoadRect sf)
      ((logitsRows k hk).view.read (Elt F) (lg c))) (a : Ctr) (i : Item) (h : i.Ok a) (Q : PUnit.{1} → sProp 𝕄) :
    iprop(I ∗ St lg Y c mf sf a.f a.g a.s a.p a.r a.ds a.dd a.w
      ∗ (St lg Y c mf sf (i.next a).f (i.next a).g (i.next a).s (i.next a).p (i.next a).r (i.next a).ds (i.next a).dd (i.next a).w -∗ Q ⟨⟩)) ⊢ wpc c (i.prog c) Q := by
  cases i with
  | stage k hk => obtain ⟨rfl, h1, h2⟩ := h; exact stage_ok hW hk h1 h2 Q
  | fill k hk => obtain ⟨rfl, h1, h2, h3⟩ := h; exact fill_ok hW hk h1 h2 h3 (hY _ hk) Q
  | send k hk => obtain ⟨rfl, h1, h2, h3, h4⟩ := h; exact send_ok hW hk h1 h2 h3 h4 Q
  | put k hk => obtain ⟨rfl, h1, h2, h3⟩ := h; exact put_ok hW hk h1 h2 h3 Q
  | recv k hk => obtain ⟨rfl, h1⟩ := h; exact recv_ok hW hk h1 Q
  | sent k hk => obtain ⟨rfl, h1, h2⟩ := h; exact sent_ok hW hk h1 h2 Q
  | done k hk => obtain ⟨rfl, h1, h2, h3⟩ := h; exact done_ok hW hk h1 h2 h3 Q
  | credit => obtain ⟨h1, h2, h3⟩ := h; exact credit_ok hW h1 h2 h3 Q
  | credits => exact h.elim

/-- A list of steps that may be taken ends with everything done. -/
theorem run_list {I : sProp 𝕄} [BI.Persistent I] (hW : World lg Y κ ιs c I)
    (hY : ∀ k hk, Y c k = scaled (mRef.view.readAt (Elt F) (statRect k hk).toLoadRect mf) (sRef.view.readAt (Elt F) (statRect k hk).toLoadRect sf)
      ((logitsRows k hk).view.read (Elt F) (lg c))) (Q : PUnit.{1} → sProp 𝕄) (l : List Item) : ∀ a : Ctr, allOk a l = true →
    iprop(I ∗ St lg Y c mf sf a.f a.g a.s a.p a.r a.ds a.dd a.w ∗ (Done lg Y c mf sf -∗ Q ⟨⟩)) ⊢ wpc c (runItems c l) Q := by
  induction l with
  | nil => intro a h; cases h
  | cons i l ih =>
    intro a h
    by_cases hl : i = .credits ∧ l = []
    · obtain ⟨rfl, rfl⟩ := hl
      obtain ⟨h1, h2, h3, h4, h5, h6, h7, h8⟩ := of_decide_eq_true h
      rw [h1, h2, h3, h4, h5, h6, h7, h8]
      show _ ⊢ wpc c (Item.credits.prog c >>= fun _ => pure ⟨⟩) Q
      exact credits_ok hW Q
    · have h' : (decide (i.Ok a) && allOk (i.next a) l) = true := by
        rw [← h]; symm
        cases l with
        | nil => cases i <;> first | rfl | exact absurd ⟨rfl, rfl⟩ hl
        | cons j l => cases i <;> rfl
      rw [Bool.and_eq_true] at h'
      obtain ⟨h1, h2⟩ := h'
      show _ ⊢ wpc c (i.prog c >>= fun _ => runItems c l) Q
      unfold wpc
      rw [wp_bind]
      iintro ⟨#HI, HS, HQ⟩
      iapply (step_ok hW hY a i (of_decide_eq_true h1) _)
      isplitr; · iexact HI
      isplitl [HS]; · iexact HS
      iintro HS
      iapply (ih (i.next a) h2)
      isplitr; · iexact HI
      isplitl [HS] <;> iassumption

end Cert.KernelIdeal.Halves

end
-- ==== Proof.Glue.lean ====
module

public import proofs.«01_k».proof.Proof.Sends

@[expose] public section

noncomputable section

/-! The second call's buffers, cut into the slots and chunks its steps move, and put together again. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- Pieces of one buffer, each at some contents, joined. -/
theorem pieces_join {T : Type} {ℓ : Loc nD τ sig} {q : PosShare TreeShare} (S : Finset T) (K : T → Finset (Idx ℓ))
    (h : ∀ t ∈ S, ∀ t' ∈ S, t ≠ t' → Disjoint (K t) (K t')) :
    bigSep S (fun t => iprop(∃ f, ℓ ↦[K t]{q} f)) ⊢ (iprop(∃ f, ℓ ↦[S.biUnion K]{q} f) : sProp 𝕄) := by
  classical
  induction S using Finset.induction_on with
  | empty =>
    rw [Finset.biUnion_empty]
    iintro -
    iexists fun _ => Classical.arbitrary _
    rw [pointsTo_empty]
    iempintro
  | insert t S ht ih =>
    rw [BI.bigSep_insert ht, Finset.biUnion_insert]
    have hd : Disjoint (K t) (S.biUnion K) := (Finset.disjoint_biUnion_right _ _ _).mpr fun j hj =>
      h t (Finset.mem_insert_self _ _) j (Finset.mem_insert_of_mem hj) fun e => ht (e ▸ hj)
    refine (show iprop((∃ f, ℓ ↦[K t]{q} f) ∗ bigSep S (fun t => iprop(∃ f, ℓ ↦[K t]{q} f)))
      ⊢ (iprop(∃ f, ℓ ↦[K t ∪ S.biUnion K]{q} f) : sProp 𝕄) from ?_)
    iintro ⟨⟨%f, H⟩, HS⟩
    ihave HS := (ih fun a ha b hb => h a (Finset.mem_insert_of_mem ha) b (Finset.mem_insert_of_mem hb)) $$ HS
    icases HS with ⟨%g, HS⟩
    iexists (S.biUnion K).piecewise g f
    iapply (pointsTo_join hd)
    isplitl [H] <;> iassumption

theorem mem_sbuf (k : ℕ) (i : S2x64x16384.Idx) : i ∈ (sbuf k).view.set ↔ (i 0).val = k % 2 := by
  rw [Memref.set_view_squeeze]
  erw [View.set_slice_whole]
  erw [Rect.mem_set_unit]
  have h1 := (i 1).isLt
  have h2 := (i 2).isLt
  constructor
  · intro h
    have := h 0
    simp only [Matrix.cons_val_zero] at this
    have e : S1x64x16384.size 0 = 1 := rfl
    omega
  · intro h a
    fin_cases a
    · show k % 2 ≤ (i 0).val ∧ (i 0).val < k % 2 + 1
      omega
    · exact ⟨Nat.zero_le _, (Nat.zero_add 64).symm ▸ h1⟩
    · exact ⟨Nat.zero_le _, (Nat.zero_add 16384).symm ▸ h2⟩

theorem mem_rbuf (k : ℕ) (i : S4x64x16384.Idx) : i ∈ (rbuf k).view.set ↔ (i 0).val = k % 4 := by
  rw [Memref.set_view_squeeze]
  erw [View.set_slice_whole]
  erw [Rect.mem_set_unit]
  have h1 := (i 1).isLt
  have h2 := (i 2).isLt
  constructor
  · intro h
    have := h 0
    simp only [Matrix.cons_val_zero] at this
    have e : S1x64x16384.size 0 = 1 := rfl
    omega
  · intro h a
    fin_cases a
    · show k % 4 ≤ (i 0).val ∧ (i 0).val < k % 4 + 1
      omega
    · exact ⟨Nat.zero_le _, (Nat.zero_add 64).symm ▸ h1⟩
    · exact ⟨Nat.zero_le _, (Nat.zero_add 16384).symm ▸ h2⟩

theorem mem_outOwn (c : Dev nD) (k : ℕ) (hk : k < 16) (i : S1024x32768.Idx) :
    i ∈ (outOwn c k hk).view.set ↔ (i 0).val / 64 = k ∧ (i 1).val / 16384 = c.val % 2 := by
  erw [View.set_slice_whole]
  erw [Rect.mem_set_unit]
  rw [ownOff_eq k hk c]
  have h0 := (i 0).isLt
  have h1 := (i 1).isLt
  constructor
  · intro h
    have a := h 0
    have b := h 1
    simp only [Matrix.cons_val_zero, Matrix.cons_val_one] at a b
    have e : S64x16384.size 0 = 64 := rfl
    have e' : S64x16384.size 1 = 16384 := rfl
    omega
  · rintro ⟨h, h'⟩ a
    fin_cases a
    · show 64 * k ≤ (i 0).val ∧ (i 0).val < 64 * k + 64
      omega
    · show 16384 * (c.val % 2) ≤ (i 1).val ∧ (i 1).val < 16384 * (c.val % 2) + 16384
      omega

theorem mem_outPeer (c : Dev nD) (k : ℕ) (hk : k < 16) (i : S1024x32768.Idx) :
    i ∈ (outPeer c k hk).view.set ↔ (i 0).val / 64 = k ∧ (i 1).val / 16384 ≠ c.val % 2 := by
  erw [View.set_slice_whole]
  erw [Rect.mem_set_unit]
  rw [peerOff_eq k hk c]
  have h0 := (i 0).isLt
  have h1 : (i 1).val < 32768 := (i 1).isLt
  constructor
  · intro h
    have a := h 0
    have b := h 1
    simp only [Matrix.cons_val_zero, Matrix.cons_val_one] at a b
    have e : S64x16384.size 0 = 64 := rfl
    have e' : S64x16384.size 1 = 16384 := rfl
    omega
  · rintro ⟨h, h'⟩ a
    fin_cases a
    · show 64 * k ≤ (i 0).val ∧ (i 0).val < 64 * k + 64
      omega
    · show 16384 - 16384 * (c.val % 2) ≤ (i 1).val ∧ (i 1).val < 16384 - 16384 * (c.val % 2) + 16384
      omega

/-- A memref's elements at some contents, by what the memref reads or by the buffer. -/
theorem any_holds {sp : Space} {s : Shape} {e : EltTy} (c : Dev nD) (m : Memref sig .tc sp s e) (q : PosShare TreeShare) :
    (iprop(∃ X, holds c m q X) : sProp 𝕄) = iprop(∃ f, m.view.loc (c : Thread nD τ) ↦[m.view.set]{q} f) := by
  refine BI.Entails.antisymm (show iprop(∃ X, holds c m q X) ⊢ (iprop(∃ f, m.view.loc (c : Thread nD τ) ↦[m.view.set]{q} f) : sProp 𝕄) from ?_)
    (show iprop(∃ f, m.view.loc (c : Thread nD τ) ↦[m.view.set]{q} f) ⊢ (iprop(∃ X, holds c m q X) : sProp 𝕄) from ?_)
  · iintro ⟨%X, H⟩
    iexists m.view.rep X
    iexact H
  · iintro ⟨%f, H⟩
    iexists m.view.read (Elt F) f
    iapply (Entails.of_eq (holds_of c m q f)) $$ H

theorem any_of {ℓ : Loc nD τ sig} {q : PosShare TreeShare} {K : Finset (Idx ℓ)} (f : Buf (Elt F) ℓ) :
    (ℓ ↦[K]{q} f : sProp 𝕄) ⊢ iprop(∃ f, ℓ ↦[K]{q} f) := by
  iintro H
  iexists f
  iexact H

/-- A whole buffer, cut into pieces. -/
theorem whole_split {T : Type} {ℓ : Loc nD τ sig} {q : PosShare TreeShare} (S : Finset T) (K : T → Finset (Idx ℓ))
    (h : ∀ t ∈ S, ∀ t' ∈ S, t ≠ t' → Disjoint (K t) (K t')) (hc : ∀ i, ∃ t ∈ S, i ∈ K t) (f : Buf (Elt F) ℓ) :
    (ℓ ↦{q} f : sProp 𝕄) = bigSep S (fun t => ℓ ↦[K t]{q} f) := by
  classical
  rw [← pointsTo_biUnion S K h]
  congr 1
  exact (Finset.eq_univ_iff_forall.mpr fun i => by obtain ⟨t, ht, hi⟩ := hc i; exact Finset.mem_biUnion.mpr ⟨t, ht, hi⟩).symm

/-- A whole buffer, put together from pieces. -/
theorem whole_join {T : Type} {ℓ : Loc nD τ sig} {q : PosShare TreeShare} (S : Finset T) (K : T → Finset (Idx ℓ))
    (h : ∀ t ∈ S, ∀ t' ∈ S, t ≠ t' → Disjoint (K t) (K t')) (hc : ∀ i, ∃ t ∈ S, i ∈ K t) :
    bigSep S (fun t => iprop(∃ f, ℓ ↦[K t]{q} f)) ⊢ (iprop(∃ f, ℓ ↦{q} f) : sProp 𝕄) := by
  classical
  have e : S.biUnion K = Finset.univ := Finset.eq_univ_iff_forall.mpr fun i => by obtain ⟨t, ht, hi⟩ := hc i; exact Finset.mem_biUnion.mpr ⟨t, ht, hi⟩
  have := pieces_join (F := F) (q := q) S K h
  rw [e] at this
  exact this

/-- The sending slots of two chunks in a row. -/
theorem sbufs (c : Dev nD) (a : ℕ) : (iprop(∃ f, (c : Thread nD τ).loc cc1_scratch0 ↦{fullShare} f) : sProp 𝕄)
    ⊣⊢ fam a (a + 2) (fun k => iprop(∃ X, holds c (sbuf k) fullShare X)) := by
  have hd : ∀ t ∈ Finset.Ico a (a + 2), ∀ t' ∈ Finset.Ico a (a + 2), t ≠ t' → Disjoint (sbuf t).view.set (sbuf t').view.set := fun t ht t' ht' hne =>
    Finset.disjoint_left.mpr fun i hi hi' => by
      have h1 := (mem_sbuf t i).mp hi
      have h2 := (mem_sbuf t' i).mp hi'
      rw [Finset.mem_Ico] at ht ht'
      omega
  have hc : ∀ i : S2x64x16384.Idx, ∃ t ∈ Finset.Ico a (a + 2), i ∈ (sbuf t).view.set := fun i => by
    have h : (i 0).val < 2 := (i 0).isLt
    by_cases e : (i 0).val = a % 2
    · exact ⟨a, Finset.mem_Ico.mpr ⟨by omega, by omega⟩, (mem_sbuf _ _).mpr e⟩
    · exact ⟨a + 1, Finset.mem_Ico.mpr ⟨by omega, by omega⟩, (mem_sbuf _ _).mpr (by omega)⟩
  unfold fam
  rw [bigSep_congr fun k _ => any_holds c (sbuf k) fullShare]
  constructor
  · iintro ⟨%f, H⟩
    ihave H := (Entails.of_eq (whole_split (ℓ := (c : Thread nD τ).loc cc1_scratch0) (q := fullShare) (Finset.Ico a (a + 2)) (fun k => (sbuf k).view.set) hd hc f)) $$ H
    iapply (show bigSep (Finset.Ico a (a + 2)) (fun k => (c : Thread nD τ).loc cc1_scratch0 ↦[(sbuf k).view.set]{fullShare} f)
      ⊢ (bigSep (Finset.Ico a (a + 2)) fun k => iprop(∃ f, (sbuf k).view.loc (c : Thread nD τ) ↦[(sbuf k).view.set]{fullShare} f) : sProp 𝕄)
      from BI.bigSep_mono fun k _ => any_of f) $$ H
  · exact whole_join (ℓ := (c : Thread nD τ).loc cc1_scratch0) (q := fullShare) (Finset.Ico a (a + 2)) (fun k => (sbuf k).view.set) hd hc

/-- The four receiving slots. -/
theorem rbufs (c : Dev nD) (a : ℕ) : (iprop(∃ f, (c : Thread nD τ).loc cc1_scratch1 ↦{fullShare} f) : sProp 𝕄)
    ⊣⊢ fam a (a + 4) (fun k => iprop(∃ X, holds c (rbuf k) fullShare X)) := by
  have hd : ∀ t ∈ Finset.Ico a (a + 4), ∀ t' ∈ Finset.Ico a (a + 4), t ≠ t' → Disjoint (rbuf t).view.set (rbuf t').view.set := fun t ht t' ht' hne =>
    Finset.disjoint_left.mpr fun i hi hi' => by
      have h1 := (mem_rbuf t i).mp hi
      have h2 := (mem_rbuf t' i).mp hi'
      rw [Finset.mem_Ico] at ht ht'
      omega
  have hc : ∀ i : S4x64x16384.Idx, ∃ t ∈ Finset.Ico a (a + 4), i ∈ (rbuf t).view.set := fun i => by
    have h : (i 0).val < 4 := (i 0).isLt
    exact ⟨a + ((i 0).val + 4 - a % 4) % 4, Finset.mem_Ico.mpr ⟨by omega, by omega⟩, (mem_rbuf _ _).mpr (by omega)⟩
  unfold fam
  rw [bigSep_congr fun k _ => any_holds c (rbuf k) fullShare]
  constructor
  · iintro ⟨%f, H⟩
    ihave H := (Entails.of_eq (whole_split (ℓ := (c : Thread nD τ).loc cc1_scratch1) (q := fullShare) (Finset.Ico a (a + 4)) (fun k => (rbuf k).view.set) hd hc f)) $$ H
    iapply (show bigSep (Finset.Ico a (a + 4)) (fun k => (c : Thread nD τ).loc cc1_scratch1 ↦[(rbuf k).view.set]{fullShare} f)
      ⊢ (bigSep (Finset.Ico a (a + 4)) fun k => iprop(∃ f, (rbuf k).view.loc (c : Thread nD τ) ↦[(rbuf k).view.set]{fullShare} f) : sProp 𝕄)
      from BI.bigSep_mono fun k _ => any_of f) $$ H
  · exact whole_join (ℓ := (c : Thread nD τ).loc cc1_scratch1) (q := fullShare) (Finset.Ico a (a + 4)) (fun k => (rbuf k).view.set) hd hc

/-- The elements of the result that half `o` of chunk `k` covers. -/
def halfSet (c : Dev nD) (o : Bool) (k : ℕ) : Finset S1024x32768.Idx :=
  Finset.univ.filter fun i => (i 0).val / 64 = k ∧ decide ((i 1).val / 16384 = c.val % 2) = o

theorem own_set (c : Dev nD) (k : ℕ) (hk : k < 16) : (outOwn c k hk).view.set = halfSet c true k := by
  ext i; rw [mem_outOwn]; unfold halfSet; simp only [Finset.mem_filter, Finset.mem_univ, true_and, decide_eq_true_eq]
theorem peer_set (c : Dev nD) (k : ℕ) (hk : k < 16) : (outPeer c k hk).view.set = halfSet c false k := by
  ext i; rw [mem_outPeer]; unfold halfSet; simp only [Finset.mem_filter, Finset.mem_univ, true_and, decide_eq_false_iff_not, ne_eq]

/-- The result, whole, is its sixteen chunks' own halves and their peers' halves. -/
theorem outs (c : Dev nD) (f : main_v23.ty.Contents (Elt F)) : ((c : Thread nD τ).loc main_v23 ↦{fullShare} f : sProp 𝕄)
    = iprop(fam 0 16 (fun k => at16 k fun hk => holds c (outOwn c k hk) fullShare ((outOwn c k hk).view.read (Elt F) f))
      ∗ fam 0 16 (fun k => at16 k fun hk => holds c (outPeer c k hk) fullShare ((outPeer c k hk).view.read (Elt F) f))) := by
  have hd : ∀ t ∈ (Finset.univ : Finset Bool) ×ˢ Finset.Ico 0 16, ∀ t' ∈ (Finset.univ : Finset Bool) ×ˢ Finset.Ico 0 16, t ≠ t' →
      Disjoint (halfSet c t.1 t.2) (halfSet c t'.1 t'.2) := fun t ht t' ht' hne =>
    Finset.disjoint_left.mpr fun i hi hi' => by
      unfold halfSet at hi hi'
      rw [Finset.mem_filter] at hi hi'
      exact hne (Prod.ext (hi.2.2.symm.trans hi'.2.2) (hi.2.1.symm.trans hi'.2.1))
  have hc : ∀ i : S1024x32768.Idx, ∃ t ∈ (Finset.univ : Finset Bool) ×ˢ Finset.Ico 0 16, i ∈ halfSet c t.1 t.2 := fun i => by
    have h : (i 0).val < 1024 := (i 0).isLt
    refine ⟨(decide ((i 1).val / 16384 = c.val % 2), (i 0).val / 64), Finset.mem_product.mpr ⟨Finset.mem_univ _, Finset.mem_Ico.mpr ⟨by omega, ?_⟩⟩, ?_⟩
    · show (i 0).val / 64 < 16
      omega
    · unfold halfSet; exact Finset.mem_filter.mpr ⟨Finset.mem_univ _, rfl, rfl⟩
  rw [whole_split (ℓ := (c : Thread nD τ).loc main_v23) (q := fullShare) _ (fun t : Bool × ℕ => halfSet c t.1 t.2) hd hc f,
    show (Finset.univ : Finset Bool) ×ˢ Finset.Ico 0 16 = (Finset.Ico 0 16).map ⟨fun k => (true, k), fun _ _ h => (Prod.ext_iff.mp h).2⟩
        ∪ (Finset.Ico 0 16).map ⟨fun k => (false, k), fun _ _ h => (Prod.ext_iff.mp h).2⟩ by
      ext ⟨b, k⟩
      rw [Finset.mem_product, Finset.mem_union, Finset.mem_map, Finset.mem_map]
      constructor
      · rintro ⟨-, h⟩
        cases b
        · exact Or.inr ⟨k, h, rfl⟩
        · exact Or.inl ⟨k, h, rfl⟩
      · rintro (⟨j, h, e⟩ | ⟨j, h, e⟩)
        · exact ⟨Finset.mem_univ _, (congrArg Prod.snd e : j = k) ▸ h⟩
        · exact ⟨Finset.mem_univ _, (congrArg Prod.snd e : j = k) ▸ h⟩,
    BI.bigSep_union (Finset.disjoint_left.mpr fun x hx hx' => by
      obtain ⟨k, -, rfl⟩ := Finset.mem_map.mp hx
      obtain ⟨k', -, e⟩ := Finset.mem_map.mp hx'
      exact Bool.false_ne_true (congrArg Prod.fst e)),
    bigSep_map, bigSep_map]
  refine congr_arg₂ (fun a b : sProp 𝕄 => iprop(a ∗ b)) (bigSep_congr fun k hk => ?_) (bigSep_congr fun k hk => ?_)
  · have h := (Finset.mem_Ico.mp hk).2
    rw [at16_eq h, ← holds_of c (outOwn c k h) fullShare f, own_set]; rfl
  · have h := (Finset.mem_Ico.mp hk).2
    rw [at16_eq h, ← holds_of c (outPeer c k h) fullShare f, peer_set]; rfl

end Cert.KernelIdeal.Halves

end
-- ==== Proof.Open.lean ====
module

public import proofs.«01_k».proof.Proof.Glue

@[expose] public section

noncomputable section

/-! The second call's body, from the opening of its cells to their closing. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The call's own semaphores. -/
abbrev osem1 : Fin 12 → SemLoc sig :=
  ![.reg credS, .dma locSem, .dma (stageSem 0), .dma (stageSem 1), .dma (outSem 0), .dma (outSem 1), .dma (sendSem 0), .dma (sendSem 1),
    .dma (recvSem 0), .dma (recvSem 1), .dma (recvSem 2), .dma (recvSem 3)]

theorem osem1_inj : Function.Injective osem1 := by decide +kernel
theorem role_osem1 (k : Fin 12) : roleOf (osem1 k) ≠ .other := by revert k; decide +kernel

theorem over_osem1 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

variable (lg : Dev nD → main_v1.ty.Contents (Elt F)) (Y : Dev nD → ℕ → S64x16384.Idx → Elt F .f32)

/-- The invariants at the names the launch chose, and the levels. -/
structure World0 (κ : GSem nD τ sig → ℕ) (ιs : Dev nD × ℕ → ℕ) (I : sProp 𝕄) : Prop where
  cells : ∀ d sm, roleOf sm ≠ .other → I ⊢ cellInv EB (Rd lg Y) (κ (cl d sm)) (cl d sm)
  slots : ∀ (d : Dev nD) s, s < 4 → I ⊢ Release.slotInv ES (ιs (d, s)) (d, s) (Sl (d, s))
  levels : I ⊢ levAts (SiteBlocks.L 40) SiteBlocks.lv

variable {lg Y}
variable {κ : GSem nD τ sig → ℕ} {ιs : Dev nD × ℕ → ℕ} {c : Dev nD}

/-- With the peer's credit cell open, the invariants are all that the steps need. -/
theorem World0.world {I : sProp 𝕄} (hW : World0 lg Y κ ιs I) (c : Dev nD) :
    World lg Y κ ιs c iprop(I ∗ reached EB (cl (peer c) (.reg credS)) 0) where
  cells d sm h := by iintro ⟨HI, -⟩; iapply (hW.cells d sm h) $$ HI
  slots d s h := by iintro ⟨HI, -⟩; iapply (hW.slots d s h) $$ HI
  levels := by iintro ⟨HI, -⟩; iapply hW.levels $$ HI
  credit := by iintro ⟨-, H⟩; iexact H

/-- The own cells at the start of their first rounds. -/
def Opened (c : Dev nD) : sProp 𝕄 :=
  iprop(pos c (.reg credS) 0 ∗ pos c (.dma locSem) 0 ∗ fam 0 2 (fun k => pos c (.dma (stageSem k)) (k / 2)) ∗ fam 0 2 (fun k => pos c (.dma (outSem k)) (k / 2))
    ∗ fam 0 2 (fun k => pos c (.dma (sendSem k)) (k / 2)) ∗ fam 0 4 (fun k => pos c (.dma (recvSem k)) (k / 4)))

theorem fam_two (a : ℕ) (Φ : ℕ → sProp 𝕄) : fam a (a + 2) Φ = iprop(Φ a ∗ Φ (a + 1) ∗ BI.emp) := by
  rw [fam_pop (by omega), fam_pop (by omega), fam_empty (le_refl _)]
theorem fam_four (a : ℕ) (Φ : ℕ → sProp 𝕄) : fam a (a + 4) Φ = iprop(Φ a ∗ Φ (a + 1) ∗ Φ (a + 2) ∗ Φ (a + 3) ∗ BI.emp) := by
  rw [fam_pop (by omega), fam_pop (by omega), fam_pop (by omega), fam_pop (by omega), fam_empty (le_refl _)]

/-- The own cells opened. -/
theorem open_ok {I : sProp 𝕄} [BI.Persistent I] (hW : World0 lg Y κ ιs I) :
    iprop(I ∗ bigSep Finset.univ (fun k => openTok EB (cl c (osem1 k))) ∗ Pipeline.ownSems0 osem1 c) ⊢ (|={Set.univ}=> Opened c : sProp 𝕄) := by
  have h1 (k : Fin 12) (_ : k ∈ Finset.univ) : iprop(I ∗ (openTok EB (cl c (osem1 k)) ∗ semVal (cl c (osem1 k)) 0))
      ⊢ (iprop(|={Set.univ}=> pos c (osem1 k) 0) : sProp 𝕄) := by
    iintro ⟨#HI, Ho, Hv⟩
    ihave #Hc := (hW.cells c (osem1 k) (role_osem1 k)) $$ HI
    unfold pos
    iapply (Rounds.cell_open EB (Rd lg Y) (g := cl c (osem1 k)) (Set.mem_univ (κ (cl c (osem1 k)))))
    isplitr; · iexact Hc
    isplitl [Ho] <;> iassumption
  have h2 : (bigSep Finset.univ fun k => pos (F := F) c (osem1 k) 0) ⊢ (Opened c : sProp 𝕄) := by
    unfold Opened
    rw [over_osem1, fam_two, fam_two, fam_two, fam_four]
    show iprop(pos (F := F) c (.reg credS) 0 ∗ pos c (.dma locSem) 0 ∗ pos c (.dma (stageSem 0)) 0 ∗ pos c (.dma (stageSem 1)) 0
      ∗ pos c (.dma (outSem 0)) 0 ∗ pos c (.dma (outSem 1)) 0 ∗ pos c (.dma (sendSem 0)) 0 ∗ pos c (.dma (sendSem 1)) 0
      ∗ pos c (.dma (recvSem 0)) 0 ∗ pos c (.dma (recvSem 1)) 0 ∗ pos c (.dma (recvSem 2)) 0 ∗ pos c (.dma (recvSem 3)) 0)
      ⊢ (iprop(pos c (.reg credS) 0 ∗ pos c (.dma locSem) 0 ∗ (pos c (.dma (stageSem 0)) 0 ∗ pos c (.dma (stageSem 1)) 0 ∗ BI.emp)
        ∗ (pos c (.dma (outSem 0)) 0 ∗ pos c (.dma (outSem 1)) 0 ∗ BI.emp) ∗ (pos c (.dma (sendSem 0)) 0 ∗ pos c (.dma (sendSem 1)) 0 ∗ BI.emp)
        ∗ (pos c (.dma (recvSem 0)) 0 ∗ pos c (.dma (recvSem 1)) 0 ∗ pos c (.dma (recvSem 2)) 0 ∗ pos c (.dma (recvSem 3)) 0 ∗ BI.emp)) : sProp 𝕄)
    iintro ⟨H0, H1, H2, H3, H4, H5, H6, H7, H8, H9, H10, H11⟩
    iframe
    repeat' (first | iempintro | isplitr)
  unfold Pipeline.ownSems0
  rw [← bigSep_sep']
  iintro H
  ihave H := (bigSep_with_persistent (R := I) h1) $$ H
  ihave H := (bigSep_fupd (Finset.univ : Finset (Fin 12)) fun k => pos (F := F) c (osem1 k) 0) $$ H
  imod H with H
  imodintro
  iapply h2 $$ H

/-- The own cells after their last rounds. -/
def Ended (c : Dev nD) : sProp 𝕄 :=
  iprop(atPos EB (cl c (.reg credS)) 1 ∅ 0 ∗ pos c (.dma locSem) 16 ∗ fam 16 18 (fun k => pos c (.dma (stageSem k)) (k / 2)) ∗ fam 16 18 (fun k => pos c (.dma (outSem k)) (k / 2))
    ∗ fam 16 18 (fun k => pos c (.dma (sendSem k)) (k / 2)) ∗ fam 16 20 (fun k => pos c (.dma (recvSem k)) (k / 4)))

/-- The own cells closed, their counters at zero. -/
theorem close_ok {I : sProp 𝕄} [BI.Persistent I] (hW : World0 lg Y κ ιs I) :
    iprop(I ∗ Ended c) ⊢ (|={Set.univ}=> Pipeline.ownSems0 osem1 c : sProp 𝕄) := by
  have h1 (k : Fin 12) (_ : k ∈ Finset.univ) : iprop(I ∗ atPos EB (cl c (osem1 k)) (roleOf (osem1 k)).last ∅ 0)
      ⊢ (iprop(|={Set.univ}=> semVal (cl c (osem1 k)) 0) : sProp 𝕄) := by
    iintro ⟨#HI, Ha⟩
    ihave #Hc := (hW.cells c (osem1 k) (role_osem1 k)) $$ HI
    iapply (Rounds.cell_close EB (Rd lg Y) (g := cl c (osem1 k)) (Set.mem_univ (κ (cl c (osem1 k)))) id (duties_last lg Y c (osem1 k)))
    isplitr; · iexact Hc
    iexact Ha
  have h2 : (Ended c : sProp 𝕄) ⊢ bigSep Finset.univ fun k => atPos EB (cl c (osem1 k)) (roleOf (osem1 k)).last ∅ 0 := by
    unfold Ended pos
    rw [over_osem1, fam_two, fam_two, fam_two, fam_four]
    rw [stageSem_of 16 0 rfl, stageSem_of (16 + 1) 1 rfl, outSem_of 16 0 rfl, outSem_of (16 + 1) 1 rfl, sendSem_of 16 0 rfl, sendSem_of (16 + 1) 1 rfl,
      recvSem_of 16 0 rfl, recvSem_of (16 + 1) 1 rfl, recvSem_of (16 + 2) 2 rfl, recvSem_of (16 + 3) 3 rfl]
    rw [show (roleOf (osem1 0)).last = 1 from congrArg Role.last role_credit, show (roleOf (osem1 1)).last = 16 from congrArg Role.last role_loc,
      show (roleOf (osem1 2)).last = 8 from congrArg Role.last (role_stage 0), show (roleOf (osem1 3)).last = 8 from congrArg Role.last (role_stage 1),
      show (roleOf (osem1 4)).last = 8 from congrArg Role.last (role_out 0), show (roleOf (osem1 5)).last = 8 from congrArg Role.last (role_out 1),
      show (roleOf (osem1 6)).last = 8 from congrArg Role.last (role_send 0), show (roleOf (osem1 7)).last = 8 from congrArg Role.last (role_send 1),
      show (roleOf (osem1 8)).last = 4 from congrArg Role.last (role_recv 0), show (roleOf (osem1 9)).last = 4 from congrArg Role.last (role_recv 1),
      show (roleOf (osem1 10)).last = 4 from congrArg Role.last (role_recv 2), show (roleOf (osem1 11)).last = 4 from congrArg Role.last (role_recv 3)]
    iintro ⟨H0, ⟨H1, -⟩, ⟨⟨H2, -⟩, ⟨H3, -⟩, -⟩, ⟨⟨H4, -⟩, ⟨H5, -⟩, -⟩, ⟨⟨H6, -⟩, ⟨H7, -⟩, -⟩, ⟨H8, -⟩, ⟨H9, -⟩, ⟨H10, -⟩, ⟨H11, -⟩, -⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  unfold Pipeline.ownSems0
  iintro ⟨HI, H⟩
  ihave H := h2 $$ H
  ihave H := (bigSep_with_persistent (R := I) h1) $$ [HI H]
  · isplitl [HI] <;> iassumption
  iapply (bigSep_fupd (Finset.univ : Finset (Fin 12)) fun k => (semVal (cl c (osem1 k)) 0 : sProp 𝕄)) $$ H

/-- The four receiving slots are given to the peer. -/
theorem give_all {I : sProp 𝕄} [BI.Persistent I] (hW : World0 lg Y κ ιs I) :
    iprop(I ∗ fam 0 4 (fun k => Release.readerAt ES (c, k % 4) (k / 4)) ∗ fam 0 4 (fun k => iprop(∃ X, holds c (rbuf k) fullShare X))
        ∗ fam 0 4 (fun k => pos c (.dma (recvSem k)) (k / 4)))
      ⊢ (|={Set.univ}=> (fam 0 4 (fun k => Release.readerAt ES (c, k % 4) (k / 4 + 1)) ∗ frees c 4 ∗ fam 0 4 (fun k => pos c (.dma (recvSem k)) (k / 4))) : sProp 𝕄) := by
  have h1 (k : ℕ) (_ : k ∈ Finset.Ico 0 4) : iprop(I ∗ (Release.readerAt ES (c, k % 4) (k / 4) ∗ (∃ X, holds c (rbuf k) fullShare X) ∗ pos c (.dma (recvSem k)) (k / 4)))
      ⊢ (iprop(|={Set.univ}=> (Release.readerAt ES (c, k % 4) (k / 4 + 1) ∗ free c k ∗ pos c (.dma (recvSem k)) (k / 4))) : sProp 𝕄) := by
    rw [← Sl_eq c k]
    unfold free pos
    iintro ⟨#HI, Ha, Hw, Hp, #Hr⟩
    imod (Release.slot_release ES (Set.mem_univ (ιs (c, k % 4))) (Sl_false _) (k / 4)) $$ [Ha Hw] with ⟨Ha, Hw⟩
    · isplitr; · iapply (hW.slots c (k % 4) (Nat.mod_lt _ (by decide))); iexact HI
      isplitl [Ha] <;> iassumption
    imodintro
    iframe
    isplitr <;> iexact Hr
  unfold fam frees
  rw [← Nat.Ico_zero_eq_range, ← bigSep_sep', ← bigSep_sep', ← bigSep_sep', ← bigSep_sep']
  iintro H
  ihave H := (bigSep_with_persistent (R := I) h1) $$ H
  iapply (bigSep_fupd (Finset.Ico 0 4) _) $$ H

/-- The four receiving slots are taken back. -/
theorem take_all {I : sProp 𝕄} [BI.Persistent I] (hW : World lg Y κ ιs c I) :
    iprop(I ∗ frees c 20 ∗ fam 16 20 (fun k => Release.writeTok ES (c, k % 4) 5))
      ⊢ (|={Set.univ}=> fam 16 20 (fun k => iprop(∃ X, holds c (rbuf k) fullShare X)) : sProp 𝕄) := by
  have h1 (k : ℕ) (hk : k ∈ Finset.Ico 16 20) : iprop((I ∗ frees c 20) ∗ Release.writeTok ES (c, k % 4) 5)
      ⊢ (iprop(|={Set.univ}=> ∃ X, holds c (rbuf k) fullShare X) : sProp 𝕄) := by
    have hk' := Finset.mem_Ico.mp hk
    iintro ⟨⟨#HI, #Hf⟩, Hw⟩
    ihave Hf := (frees_free hk'.2) $$ Hf
    unfold free
    icases Hf with ⟨Hf, -⟩
    rw [show k / 4 + 1 = 5 by omega]
    iapply (take_slot hW c k 5)
    isplitr; · iexact HI
    isplitl [Hf] <;> iassumption
  unfold fam
  iintro ⟨#HI, #Hf, H⟩
  ihave H := (bigSep_with_persistent (R := iprop(I ∗ frees c 20)) h1) $$ [H]
  · isplitr; · (isplitr <;> iassumption)
    iexact H
  iapply (bigSep_fupd (Finset.Ico 16 20) _) $$ H

end Cert.KernelIdeal.Halves

end
-- ==== Proof.Second.lean ====
module

public import proofs.«01_k».proof.Proof.Open

@[expose] public section

noncomputable section

/-! The second call's body, whole. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- What a device may pay in the second call. -/
def Tokens (c : Dev nD) : sProp 𝕄 :=
  iprop(fam 0 16 (fun k => dutyTok EB (cl c (.dma (stageSem k))) (k / 2) 0) ∗ fam 0 16 (fun k => dutyTok EB (cl c (.dma locSem)) k 0)
    ∗ fam 0 16 (fun k => dutyTok EB (cl c (.dma (outSem k))) (k / 2) 0) ∗ fam 0 16 (fun k => dutyTok EB (cl c (.dma (sendSem k))) (k / 2) 0)
    ∗ fam 0 16 (fun k => dutyTok EB (cl (peer c) (.dma (recvSem k))) (k / 4) 0) ∗ fam 0 16 (fun k => dutyTok EB (cl (peer c) (.reg credS)) 0 k))

/-- What a device may wait for in the second call. -/
def Credits (c : Dev nD) : sProp 𝕄 :=
  iprop(cred (tallyAt (cl c (.reg barS)) 3 1) ∗ fam 0 16 (fun k => cred (tallyAt (cl c (.dma (recvSem k))) (4 + 2 * k) N))
    ∗ fam 0 16 (fun k => cred (tallyAt (cl c (.reg credS)) (5 + 2 * k) 1)))

/-- A device's part of the receiving slots: it reads its own, writes its peer's, and has its own back in the end. -/
def SlotToks (c : Dev nD) : sProp 𝕄 :=
  iprop(fam 0 4 (fun k => Release.readerAt ES (c, k % 4) (k / 4)) ∗ fam 0 16 (fun k => Release.writeTok ES (peer c, k % 4) (k / 4 + 1))
    ∗ fam 16 20 (fun k => Release.writeTok ES (c, k % 4) 5))

/-- The barrier's cells of the second call before it, and the right to signal the peer's. -/
def Gate (c : Dev nD) : sProp 𝕄 :=
  iprop(atPos EB (cl c (.reg barS)) 0 ∅ 0 ∗ dutyTok EB (cl (peer c) (.reg barS)) 0 0 ∗ reached EB (cl (peer c) (.reg barS)) 0)

/-- What a device owes when the second call starts. -/
def due1 (c : Dev nD) : CellTallies nD τ sig ℕ := owed c 0 0 + tallyAt (cl (peer c) (.reg barS)) 3 1

variable {lg : Dev nD → main_v1.ty.Contents (Elt F)} {Y : Dev nD → ℕ → S64x16384.Idx → Elt F .f32}
variable {κ : GSem nD τ sig → ℕ} {ιs : Dev nD × ℕ → ℕ} {c : Dev nD}
variable {mf : mRef.view.ty.Contents (Elt F)} {sf : sRef.view.ty.Contents (Elt F)}

theorem any_at16 {a b : ℕ} {Φ : (k : ℕ) → k < 16 → (S64x16384.Idx → Elt F .f32) → sProp 𝕄} (x : (k : ℕ) → k < 16 → (S64x16384.Idx → Elt F .f32)) :
    fam a b (fun k => at16 k fun hk => Φ k hk (x k hk)) ⊢ (fam a b (fun k => at16 k fun hk => iprop(∃ X, Φ k hk X)) : sProp 𝕄) := by
  refine BI.bigSep_mono fun k _ => ?_
  by_cases h : k < 16
  · rw [at16_eq h, at16_eq h]
    refine (show Φ k h (x k h) ⊢ (iprop(∃ X, Φ k h X) : sProp 𝕄) from ?_)
    iintro H
    iexists _
    iexact H
  · unfold at16
    rw [dif_neg h, dif_neg h]
    exact BI.Entails.refl _

theorem fam_sep (a b : ℕ) (Φ Ψ : ℕ → sProp 𝕄) : fam a b (fun k => iprop(Φ k ∗ Ψ k)) = iprop(fam a b Φ ∗ fam a b Ψ) := bigSep_sep' _ Φ Ψ

/-- What the first step finds. -/
theorem start_ok (f : main_v23.ty.Contents (Elt F)) :
    iprop(Opened c ∗ Tokens c ∗ fam 0 16 (fun k => cred (tallyAt (cl c (.dma (recvSem k))) (4 + 2 * k) N)) ∗ fam 0 16 (fun k => cred (tallyAt (cl c (.reg credS)) (5 + 2 * k) 1))
        ∗ fam 0 4 (fun k => Release.readerAt ES (c, k % 4) (k / 4 + 1)) ∗ fam 0 16 (fun k => Release.writeTok ES (peer c, k % 4) (k / 4 + 1))
        ∗ frees c 4 ∗ frees (peer c) 4
        ∗ (∃ f, (c : Thread nD τ).loc cc1_scratch0 ↦{fullShare} f) ∗ ((c : Thread nD τ).loc main_v23 ↦{fullShare} f)
        ∗ ptL lg c ∗ stats c mf sf ∗ (∃ W, owes (c : Thread nD τ) (owed c 0 0) W))
      ⊢ (St lg Y c mf sf 0 0 0 0 0 0 0 0 : sProp 𝕄) := by
  unfold Opened Tokens St
  rw [outs c f]
  iintro ⟨⟨P1, P2, P3, P4, P5, P6⟩, ⟨T1, T2, T3, T4, T5, T6⟩, C1, C2, R, Wt, F1, F2, S0, ⟨O1, O2⟩, L, S, O⟩
  ihave S0 := (sbufs c 0).1 $$ S0
  ihave O1 := (any_at16 (Φ := fun k hk X => holds c (outOwn c k hk) fullShare X) fun k hk => (outOwn c k hk).view.read (Elt F) f) $$ O1
  ihave O2 := (any_at16 (Φ := fun k hk X => holds c (outPeer c k hk) fullShare X) fun k hk => (outPeer c k hk).view.read (Elt F) f) $$ O2
  rw [fam_sep, fam_sep]
  repeat rw [fam_empty (a := 0) (b := 0) (le_refl _)]
  unfold pos
  icases P1 with ⟨P1, -⟩
  iframe
  repeat (isplitr; · iempintro)
  iexists ∅
  rw [bigSep_empty]
  iframe
  iempintro

/-- What the second call's body leaves. -/
def Left (lg : Dev nD → main_v1.ty.Contents (Elt F)) (c : Dev nD) (mf : mRef.view.ty.Contents (Elt F)) (sf : sRef.view.ty.Contents (Elt F))
    (out : main_v23.ty.Contents (Elt F)) : sProp 𝕄 :=
  iprop(Pipeline.ownSems0 osem1 c ∗ semVal (cl c (.reg barS)) 0
    ∗ (∃ f, (c : Thread nD τ).loc cc1_scratch0 ↦{fullShare} f) ∗ (∃ f, (c : Thread nD τ).loc cc1_scratch1 ↦{fullShare} f)
    ∗ ((c : Thread nD τ).loc main_v23 ↦{fullShare} out) ∗ ptL lg c ∗ stats c mf sf ∗ (∃ W, owes (c : Thread nD τ) 0 W))

/-- The end of the body: the slots taken back, the cells closed, the result put together. -/
theorem end_ok {I : sProp 𝕄} [BI.Persistent I] (hW : World0 lg Y κ ιs I) {out : main_v23.ty.Contents (Elt F)}
    (hown : ∀ k hk, (outOwn c k hk).view.read (Elt F) out = Y c k) (hpeer : ∀ k hk, (outPeer c k hk).view.read (Elt F) out = Y (peer c) k) :
    iprop((I ∗ reached EB (cl (peer c) (.reg credS)) 0) ∗ Done lg Y c mf sf ∗ fam 16 20 (fun k => Release.writeTok ES (c, k % 4) 5) ∗ atPos EB (cl c (.reg barS)) 1 ∅ 0)
      ⊢ (|={Set.univ}=> Left lg c mf sf out : sProp 𝕄) := by
  unfold Done Left
  iintro ⟨#HI, ⟨P1, B1, P2, P3, O1, P4, P5, O2, #Fr, P6, L, S, O⟩, Wt, Hb⟩
  imod (take_all (hW.world c)) $$ [Wt] with R
  · isplitr; · iexact HI
    isplitr; · iexact Fr
    iexact Wt
  icases HI with ⟨#HI, -⟩
  ihave #Hc := (hW.cells c (.reg barS) (by rw [role_bar]; exact fun h => by cases h)) $$ HI
  imod (close_ok hW) $$ [P1 P2 P3 P4 P5 P6] with Hs
  · isplitr; · iexact HI
    unfold Ended
    iframe
  imod (Rounds.cell_close EB (Rd lg Y) (g := cl c (.reg barS)) (Set.mem_univ (κ (cl c (.reg barS)))) id
    (fun r h => duties_last lg Y c (.reg barS) r (by rw [role_bar]; exact h))) $$ [Hb] with Hb
  · isplitr; · iexact Hc
    iexact Hb
  imodintro
  ihave B1 := (sbufs c 16).2 $$ B1
  ihave R := (rbufs c 16).2 $$ R
  iframe
  rw [outs c out]
  rw [show fam 0 16 (fun k => at16 k fun hk => holds c (outOwn c k hk) fullShare ((outOwn c k hk).view.read (Elt F) out))
      = fam (F := F) 0 16 (fun k => at16 k fun hk => holds c (outOwn c k hk) fullShare (Y c k)) from
    fam_congr fun k _ hk => by rw [at16_eq hk, at16_eq hk, hown],
    show fam 0 16 (fun k => at16 k fun hk => holds c (outPeer c k hk) fullShare ((outPeer c k hk).view.read (Elt F) out))
      = fam (F := F) 0 16 (fun k => at16 k fun hk => holds c (outPeer c k hk) fullShare (Y (peer c) k)) from
    fam_congr fun k _ hk => by rw [at16_eq hk, at16_eq hk, hpeer]]
  isplitl [O1] <;> iassumption

/-- The barrier's signal. -/
theorem signal_ok {I : sProp 𝕄} [BI.Persistent I] (hW : World0 lg Y κ ιs I) {p' : Dev nD} (hp : p' = peer c)
    {cont : PUnit → Prog (TpuEff nD τ sig (Elt F) Λ₀ .tc) PUnit} {Q : PUnit.{1} → sProp 𝕄} :
    iprop(I ∗ reached EB (cl (peer c) (.reg barS)) 0 ∗ dutyTok EB (cl (peer c) (.reg barS)) 0 0 ∗ frees c 4 ∗ reached EB (cl c (.reg credS)) 0
        ∗ (∃ W, owes (c : Thread nD τ) (due1 c) W))
      ⊢ iprop(((∃ W, owes (c : Thread nD τ) (owed c 0 0) W) -∗ wpc c (cont ⟨⟩) Q)
        -∗ wpc c (.op (.semSignal ((p' : Dev nD) : Thread nD τ) barS ((1 : ℕ) : ℤ)) cont) Q) := by
  subst hp
  unfold due1
  iintro ⟨#HI, #Hr, Ht, #Hf, #Hcr, ⟨%W, HO⟩⟩ Hk
  ihave #Hc := (hW.cells (peer c) (.reg barS) (by rw [role_bar]; exact fun h => by cases h)) $$ HI
  iapply (Rounds.wp_signal 𝒱₀ EB (Rd lg Y) (c : Thread nD τ) none (dst := (peer c : Thread nD τ)) (sem := barS) (r := 0) (d := 0) (k' := 1)
      (κ := κ (cl (peer c) (.reg barS))) (by rw [duties_bar]; exact Finset.mem_singleton_self _) (amount_bar lg Y _ _ _) 3
      (owed c 0 0) rfl (W := W)) $$ [HO Ht]
  · rw [payload_bar]
    unfold barPay
    rw [peer_peer]
    isplitr; · iexact Hc
    iframe
    isplitr
    · isplitr; · iexact Hf
      iexact Hcr
    iexact Hr
  iintro HO
  iapply Hk
  iexists W
  iexact HO

/-- The barrier's wait. -/
theorem meet_ok {I : sProp 𝕄} [BI.Persistent I] (hW : World0 lg Y κ ιs I)
    {cont : PUnit → Prog (TpuEff nD τ sig (Elt F) Λ₀ .tc) PUnit} {Q : PUnit.{1} → sProp 𝕄} :
    iprop(I ∗ cred (tallyAt (cl c (.reg barS)) 3 1) ∗ atPos EB (cl c (.reg barS)) 0 ∅ 0 ∗ (∃ W, owes (c : Thread nD τ) (owed c 0 0) W))
      ⊢ iprop((((∃ W, owes (c : Thread nD τ) (owed c 0 0) W) ∗ atPos EB (cl c (.reg barS)) 1 ∅ 0 ∗ barPay c) -∗ wpc c (cont ⟨⟩) Q)
        -∗ wpc c (.op (.semWait barS ((1 : ℕ) : ℤ)) cont) Q) := by
  iintro ⟨#HI, Hcr, Hat, ⟨%W, HO⟩⟩ Hk
  ihave #Hc := (hW.cells c (.reg barS) (by rw [role_bar]; exact fun h => by cases h)) $$ HI
  ihave #Hl := hW.levels $$ HI
  iapply (Rounds.wp_wait_rest_token 𝒱₀ EB (Rd lg Y) (c : Thread nD τ) none (κ := κ (cl c (.reg barS)))
      (wpE_semWait_eq 𝒱₀ (c : Thread nD τ) none Set.univ (sem := barS) (k := 1)) (Set.mem_univ _) 3 (O := owed c 0 0) (W := W) (R := 0) (m := 0) (T := ∅)
      ((Nat.zero_add _).trans (expect_bar lg Y c).symm)) $$ [Hcr HO Hat]
  · isplitr; · iexact Hc
    isplitl [Hcr]; · iexact Hcr
    isplitl [HO]; · iexact HO
    isplitr; · iapply (wait_ok c (.reg barS) 3 0 0 (by omega) (by omega) (by omega)); iexact Hl
    iexact Hat
  iintro ⟨HO, Hat, -, Hp⟩
  iapply Hk
  isplitl [HO]; · iexists _; iexact HO
  isplitl [Hat]; · iexact Hat
  iapply (Entails.of_eq (rest_bar lg Y c)) $$ Hp

theorem dev1_eq (c : Dev nD) : (⟨k1_dev1 c, k1_dev1_lt c⟩ : Dev nD) = peer c := by revert c; decide +kernel

/-- THE SECOND CALL'S BODY. -/
theorem second_ok {I : sProp 𝕄} [BI.Persistent I] (hW : World0 lg Y κ ιs I)
    (hY : ∀ k hk, Y c k = scaled (mRef.view.readAt (Elt F) (statRect k hk).toLoadRect mf) (sRef.view.readAt (Elt F) (statRect k hk).toLoadRect sf)
      ((logitsRows k hk).view.read (Elt F) (lg c))) {out : main_v23.ty.Contents (Elt F)}
    (hown : ∀ k hk, (outOwn c k hk).view.read (Elt F) out = Y c k) (hpeer : ∀ k hk, (outPeer c k hk).view.read (Elt F) out = Y (peer c) k)
    (f : main_v23.ty.Contents (Elt F)) (Q : PUnit.{1} → sProp 𝕄) :
    iprop(I ∗ Opened c ∗ Tokens c ∗ Credits c ∗ SlotToks c ∗ Gate c
        ∗ (∃ f, (c : Thread nD τ).loc cc1_scratch0 ↦{fullShare} f) ∗ (∃ f, (c : Thread nD τ).loc cc1_scratch1 ↦{fullShare} f)
        ∗ ((c : Thread nD τ).loc main_v23 ↦{fullShare} f) ∗ ptL lg c ∗ stats c mf sf ∗ (∃ W, owes (c : Thread nD τ) (due1 c) W)
        ∗ (Left lg c mf sf out -∗ Q ⟨⟩))
      ⊢ wpc c (bodyAt1 t1_0) Q := by
  rw [body_eq]
  show _ ⊢ wpc c (.op .deviceId fun d => .op (.semSignal (((⟨k1_dev1 d, k1_dev1_lt d⟩ : Dev nD)) : Thread nD τ) barS ((1 : ℕ) : ℤ))
    fun _ => .op (.semWait barS ((1 : ℕ) : ℤ)) fun _ => runItems d items) Q
  unfold wpc
  rw [wp_deviceId]
  unfold Credits SlotToks Gate
  iintro ⟨#HI, Ho, Ht, ⟨C0, C1, C2⟩, ⟨R, W1, W2⟩, ⟨G, T7, #Gr⟩, S0, S1, V, L, S, O, Hk⟩
  ihave S1 := (rbufs c 0).1 $$ S1
  unfold Opened pos
  icases Ho with ⟨⟨P1, #P1r⟩, P2, P3, P4, P5, P6⟩
  imod (give_all hW) $$ [R S1 P6] with ⟨R, #Fr, P6⟩
  · isplitr; · iexact HI
    unfold pos
    iframe
  unfold Tokens
  icases Ht with ⟨T1, T2, T3, T4, T5, T6⟩
  iapply (signal_ok hW (dev1_eq c)) $$ [T7 O]
  · isplitr; · iexact HI
    iframe
    isplitr; · iexact Gr
    isplitr; · iexact Fr
    iexact P1r
  iintro O
  iapply (meet_ok hW) $$ [C0 G O]
  · isplitr; · iexact HI
    iframe
  iintro ⟨O, G, Hp⟩
  unfold barPay
  icases Hp with ⟨#Fp, #Hre⟩
  iapply (wp_fupd frame (wpE (defs₀ (F := F)) 𝒱₀ (c : Thread nD τ) none) Set.univ (runItems c items) Q)
  iapply (run_list (hW.world c) hY (fun a => iprop(|={Set.univ}=> Q a)) items ⟨0, 0, 0, 0, 0, 0, 0, 0⟩ items_ok)
  isplitr
  · isplitr; · iexact HI
    iexact Hre
  isplitl [P1 P2 P3 P4 P5 P6 T1 T2 T3 T4 T5 T6 C1 C2 R W1 S0 V L S O]
  · iapply (start_ok f)
    unfold Opened Tokens pos
    iframe
    isplitr; · iexact P1r
    isplitr; · iexact Fr
    iexact Fp
  iintro HD
  imod (end_ok hW hown hpeer) $$ [HD W2 G] with H
  · iframe
    isplitr; · iexact HI
    iexact Hre
  imodintro
  iapply Hk $$ H

end Cert.KernelIdeal.Halves

end
-- ==== Proof.First.lean ====
module

public import proofs.«01_k».proof.Proof.Second

@[expose] public section

noncomputable section

/-! The first call: the two devices of a row of the mesh exchange their row statistics. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## The cells and the schedule -/

abbrev barA : Sem sig := ((SemArray.scalar (sig.barrier 0 rfl) : Sems sig S_)).sem
abbrev sendA : DmaSem sig := cc0_scratch0.sem
abbrev recvA : DmaSem sig := cc0_scratch1.sem

/-- The statistics sent and the statistics received. -/
abbrev inM : Memref sig .tc .vmem S1024x2 .f32 := Memref.whole cc0_stg0_0
abbrev outM : Memref sig .tc .vmem S1024x2 .f32 := Memref.whole cc0_stg1_0

/-- What a semaphore of the first call counts. -/
inductive Kind | bar | send | recv | other
  deriving DecidableEq

def kindOf : SemLoc sig → Kind
  | .dma n => if n.val = 2 then .send else if n.val = 3 then .recv else .other
  | .reg n => if n.val = 0 then .bar else .other

theorem kind_bar : kindOf (.reg barA) = .bar := by decide +kernel
theorem kind_send : kindOf (.dma sendA) = .send := by decide +kernel
theorem kind_recv : kindOf (.dma recvA) = .recv := by decide +kernel

/-- What the copy of the statistics credits. -/
abbrev NA : ℕ := outM.view.dmaCredit
theorem NA_pos : 0 < NA := View.dmaCredit_pos _ (by decide)
theorem credit_inM : inM.view.dmaCredit = NA := by unfold NA View.dmaCredit; rfl
theorem amount_outM (s : DmaSem sig) : outM.view.amount (.dma s) = NA := rfl

variable (st : Dev nD → S1024x2.Idx → Elt F .f32)

def payA (c : Dev nD) : Kind → sProp 𝕄
  | .bar => iprop((∃ X, holds (peer c) outM fullShare X) ∗ reached EA (cl (peer c) (.dma recvA)) 0)
  | .send => holds c inM fullShare (st c)
  | .recv => holds c outM fullShare (st (peer c))
  | .other => iprop(emp)
instance payA_storable (c : Dev nD) (x : Kind) : BI.Storable (upEmb : UEmb _ 𝕄) (payA st c x) := by
  unfold payA holds; split <;> infer_instance

def dutiesA (g : GSem nD τ sig) (r : ℕ) : Finset ℕ := if g.1.2 = .tc ∧ kindOf g.2 ≠ .other ∧ r = 0 then {0} else ∅
def amountA (g : GSem nD τ sig) : ℕ := match kindOf g.2 with | .bar => 1 | _ => NA

/-- The schedule of the first call: one round for each cell. -/
def RdA : Schedule (GSem nD τ sig) ℕ 𝕄 where
  duties := dutiesA
  unitless _ := False
  amount g _ _ := amountA g
  payload g _ _ := payA st g.1.1 (kindOf g.2)
  amount_pos g _ _ _ := by unfold amountA; split <;> first | exact Nat.one_pos | exact NA_pos
instance RdA_storable (g : GSem nD τ sig) (r d : ℕ) : BI.Storable (upEmb : UEmb _ 𝕄) ((RdA st).payload g r d) := payA_storable st _ _

theorem payA_bar (c : Dev nD) : payA st c .bar = iprop((∃ X, holds (peer c) outM fullShare X) ∗ reached EA (cl (peer c) (.dma recvA)) 0) := rfl
theorem payA_send (c : Dev nD) : payA st c .send = holds c inM fullShare (st c) := rfl
theorem payA_recv (c : Dev nD) : payA st c .recv = holds c outM fullShare (st (peer c)) := rfl

variable {c : Dev nD} {sm : SemLoc sig} {x : Kind}

theorem dutiesA_zero (hx : kindOf sm = x) (h : x ≠ .other) : (RdA st).duties (cl c sm) 0 = {0} := by
  show dutiesA (cl c sm) 0 = _
  unfold dutiesA
  exact if_pos ⟨rfl, by rw [show (cl c sm).2 = sm from rfl, hx]; exact h, rfl⟩
theorem dutiesA_last (r : ℕ) (h : 1 ≤ r) : (RdA st).duties (cl c sm) r = ∅ := if_neg fun e => by omega
theorem mem_dutiesA (hx : kindOf sm = x) (h : x ≠ .other) : 0 ∈ (RdA st).duties (cl c sm) 0 := by
  rw [dutiesA_zero st hx h]; exact Finset.mem_singleton_self _
theorem amountA_bar (r d : ℕ) : (RdA st).amount (cl c (.reg barA)) r d = 1 := by
  show amountA (cl c (.reg barA)) = 1; unfold amountA; rw [show (cl c (.reg barA)).2 = .reg barA from rfl, kind_bar]
theorem amountA_dma (hx : kindOf sm = x) (h : x ≠ .bar) (r d : ℕ) : (RdA st).amount (cl c sm) r d = NA := by
  show amountA (cl c sm) = NA; unfold amountA; rw [show (cl c sm).2 = sm from rfl, hx]; cases x <;> first | rfl | exact absurd rfl h
theorem payloadA (hx : kindOf sm = x) (r d : ℕ) : (RdA st).payload (cl c sm) r d = payA st c x := by
  show payA st c (kindOf sm) = _; rw [hx]
theorem expectA_bar : (RdA st).expect (cl c (.reg barA)) 0 = 1 := by
  unfold Schedule.expect Schedule.amountOf; rw [dutiesA_zero st kind_bar (by decide), Finset.sum_singleton, amountA_bar]
theorem expectA_dma (hx : kindOf sm = x) (h : x ≠ .other) (h' : x ≠ .bar) : (RdA st).expect (cl c sm) 0 = NA := by
  unfold Schedule.expect Schedule.amountOf; rw [dutiesA_zero st hx h, Finset.sum_singleton, amountA_dma st hx h']
theorem restA (hx : kindOf sm = x) (h : x ≠ .other) :
    bigSep ((RdA st).duties (cl c sm) 0 \ ∅) (fun u => (RdA st).payload (cl c sm) 0 u) = payA st c x := by
  rw [Finset.sdiff_empty, dutiesA_zero st hx h, bigSep_singleton, payloadA st hx]

/-! ## Opening and closing -/

/-- The call's own semaphores. -/
abbrev osem0 : Fin 2 → SemLoc sig := ![.dma sendA, .dma recvA]

theorem osem0_inj : Function.Injective osem0 := by decide +kernel
theorem kind_osem0 (k : Fin 2) : kindOf (osem0 k) ≠ .other := by revert k; decide +kernel

theorem over_osem0 (Φ : Fin 2 → sProp 𝕄) : bigSep Finset.univ Φ = iprop(Φ 0 ∗ Φ 1) :=
  bigSep_univ_eq_bigSepL [0, 1] (by decide) (by decide) Φ

/-- The invariants at the names the launch chose, and the levels. -/
structure WorldA (κ : GSem nD τ sig → ℕ) (I : sProp 𝕄) : Prop where
  cells : ∀ d sm, kindOf sm ≠ .other → I ⊢ cellInv EA (RdA st) (κ (cl d sm)) (cl d sm)
  levels : I ⊢ levAts (SiteBlocks.L 40) SiteBlocks.lv

def posA (c : Dev nD) (sm : SemLoc sig) (r : ℕ) : sProp 𝕄 := iprop(atPos EA (cl c sm) r ∅ 0 ∗ reached EA (cl c sm) r)

variable {st} {κ : GSem nD τ sig → ℕ}

theorem openA {I : sProp 𝕄} [BI.Persistent I] (hW : WorldA st κ I) :
    iprop(I ∗ bigSep Finset.univ (fun k => openTok EA (cl c (osem0 k))) ∗ Pipeline.ownSems0 osem0 c)
      ⊢ (|={Set.univ}=> (posA c (.dma sendA) 0 ∗ posA c (.dma recvA) 0) : sProp 𝕄) := by
  have h1 (k : Fin 2) (_ : k ∈ Finset.univ) : iprop(I ∗ (openTok EA (cl c (osem0 k)) ∗ semVal (cl c (osem0 k)) 0))
      ⊢ (iprop(|={Set.univ}=> posA c (osem0 k) 0) : sProp 𝕄) := by
    iintro ⟨#HI, Ho, Hv⟩
    ihave #Hc := (hW.cells c (osem0 k) (kind_osem0 k)) $$ HI
    unfold posA
    iapply (Rounds.cell_open EA (RdA st) (g := cl c (osem0 k)) (Set.mem_univ (κ (cl c (osem0 k)))))
    isplitr; · iexact Hc
    isplitl [Ho] <;> iassumption
  unfold Pipeline.ownSems0
  rw [← bigSep_sep']
  iintro H
  ihave H := (bigSep_with_persistent (R := I) h1) $$ H
  ihave H := (bigSep_fupd (Finset.univ : Finset (Fin 2)) fun k => posA (F := F) c (osem0 k) 0) $$ H
  rw [over_osem0]
  iexact H

theorem closeA {I : sProp 𝕄} [BI.Persistent I] (hW : WorldA st κ I) (hx : kindOf sm ≠ .other) :
    iprop(I ∗ atPos EA (cl c sm) 1 ∅ 0) ⊢ (|={Set.univ}=> semVal (cl c sm) 0 : sProp 𝕄) := by
  iintro ⟨#HI, Ha⟩
  ihave #Hc := (hW.cells c sm hx) $$ HI
  iapply (Rounds.cell_close EA (RdA st) (g := cl c sm) (Set.mem_univ (κ (cl c sm))) id (fun r h => dutiesA_last st r h))
  isplitr; · iexact Hc
  iexact Ha

/-! ## The steps -/

/-- What a device owes for the copy, and for both acts of the first call. -/
abbrev dueCopy (c : Dev nD) : CellTallies nD τ sig ℕ := tallyAt (cl (peer c) (.dma recvA)) 2 NA
def due0 (c : Dev nD) : CellTallies nD τ sig ℕ := dueCopy c + tallyAt (cl (peer c) (.reg barA)) 1 1

theorem due1_pos {g : GSem nD τ sig} {j : ℕ} (h : 0 < due1 c g j) : g.1.2 = .tc ∧ j < 40 ∧ 3 ≤ j := by
  unfold due1 at h
  rw [Pi.add_apply, Finsupp.add_apply] at h
  rcases Nat.add_pos_iff_pos_or_pos.mp h with h | h
  · obtain ⟨h1, h2, h3⟩ := owed_pos h
    exact ⟨h1, h2, by omega⟩
  · obtain ⟨rfl, rfl⟩ := Pipeline.tallyAt_pos h
    exact ⟨rfl, by omega, le_refl _⟩

theorem waitA_late (sm : SemLoc sig) (i : ℕ) (hi : i < 3) :
    (levAts (SiteBlocks.L 40) SiteBlocks.lv : sProp 𝕄) ⊢ MayWait (c : Thread nD τ) sm i (due1 c) :=
  SiteBlocks.mayWait_of (by omega) c sm _ fun g k h => by
    obtain ⟨h1, h2, h3⟩ := due1_pos h
    exact ⟨SiteBlocks.mem_L' h1 h2, by omega⟩
theorem waitA_early : (levAts (SiteBlocks.L 40) SiteBlocks.lv : sProp 𝕄) ⊢ MayWait (c : Thread nD τ) (.reg barA) 1 (due1 c + dueCopy c) :=
  SiteBlocks.mayWait_of (by omega) c _ _ fun g k h => by
    rw [Pi.add_apply, Finsupp.add_apply] at h
    rcases Nat.add_pos_iff_pos_or_pos.mp h with h | h
    · obtain ⟨h1, h2, h3⟩ := due1_pos h
      exact ⟨SiteBlocks.mem_L' h1 h2, by omega⟩
    · obtain ⟨rfl, rfl⟩ := Pipeline.tallyAt_pos h
      exact ⟨SiteBlocks.mem_L' rfl (by omega), by omega⟩

theorem signalA {I : sProp 𝕄} [BI.Persistent I] (hW : WorldA st κ I) {p' : Dev nD} (hp : p' = peer c)
    {cont : PUnit → Prog (TpuEff nD τ sig (Elt F) Λ₀ .tc) PUnit} {Q : PUnit.{1} → sProp 𝕄} :
    iprop(I ∗ reached EA (cl (peer c) (.reg barA)) 0 ∗ dutyTok EA (cl (peer c) (.reg barA)) 0 0 ∗ (∃ X, holds c outM fullShare X)
        ∗ reached EA (cl c (.dma recvA)) 0 ∗ (∃ W, owes (c : Thread nD τ) (due1 c + due0 c) W))
      ⊢ iprop(((∃ W, owes (c : Thread nD τ) (due1 c + dueCopy c) W) -∗ wpc c (cont ⟨⟩) Q)
        -∗ wpc c (.op (.semSignal ((p' : Dev nD) : Thread nD τ) barA ((1 : ℕ) : ℤ)) cont) Q) := by
  subst hp
  iintro ⟨#HI, #Hr, Ht, HX, #Hrr, ⟨%W, HO⟩⟩ Hk
  ihave #Hc := (hW.cells (peer c) (.reg barA) (by rw [kind_bar]; decide)) $$ HI
  iapply (Rounds.wp_signal 𝒱₀ EA (RdA st) (c : Thread nD τ) none (dst := (peer c : Thread nD τ)) (sem := barA) (r := 0) (d := 0) (k' := 1)
      (κ := κ (cl (peer c) (.reg barA))) (mem_dutiesA st kind_bar (by decide)) (amountA_bar st _ _) 1
      (due1 c + dueCopy c) (show due1 c + due0 c = _ by unfold due0; rw [add_assoc]) (W := W)) $$ [HO Ht HX]
  · rw [payloadA st kind_bar, payA_bar, peer_peer]
    isplitr; · iexact Hc
    iframe
    isplitr; · iexact Hrr
    iexact Hr
  iintro HO
  iapply Hk
  iexists W
  iexact HO

theorem meetA {I : sProp 𝕄} [BI.Persistent I] (hW : WorldA st κ I)
    {cont : PUnit → Prog (TpuEff nD τ sig (Elt F) Λ₀ .tc) PUnit} {Q : PUnit.{1} → sProp 𝕄} :
    iprop(I ∗ cred (tallyAt (cl c (.reg barA)) 1 1) ∗ atPos EA (cl c (.reg barA)) 0 ∅ 0 ∗ (∃ W, owes (c : Thread nD τ) (due1 c + dueCopy c) W))
      ⊢ iprop((((∃ W, owes (c : Thread nD τ) (due1 c + dueCopy c) W) ∗ atPos EA (cl c (.reg barA)) 1 ∅ 0 ∗ payA st c .bar) -∗ wpc c (cont ⟨⟩) Q)
        -∗ wpc c (.op (.semWait barA ((1 : ℕ) : ℤ)) cont) Q) := by
  iintro ⟨#HI, Hcr, Hat, ⟨%W, HO⟩⟩ Hk
  ihave #Hc := (hW.cells c (.reg barA) (by rw [kind_bar]; decide)) $$ HI
  ihave #Hl := hW.levels $$ HI
  iapply (Rounds.wp_wait_rest_token 𝒱₀ EA (RdA st) (c : Thread nD τ) none (κ := κ (cl c (.reg barA)))
      (wpE_semWait_eq 𝒱₀ (c : Thread nD τ) none Set.univ (sem := barA) (k := 1)) (Set.mem_univ _) 1 (O := due1 c + dueCopy c) (W := W) (R := 0) (m := 0) (T := ∅)
      ((Nat.zero_add _).trans (expectA_bar st).symm)) $$ [Hcr HO Hat]
  · isplitr; · iexact Hc
    isplitl [Hcr]; · iexact Hcr
    isplitl [HO]; · iexact HO
    isplitr; · iapply waitA_early; iexact Hl
    iexact Hat
  iintro ⟨HO, Hat, -, Hp⟩
  iapply Hk
  isplitl [HO]; · iexists _; iexact HO
  isplitl [Hat]; · iexact Hat
  iapply (Entails.of_eq (restA st kind_bar (by decide))) $$ Hp

theorem sendA_ok {I : sProp 𝕄} [BI.Persistent I] (hW : WorldA st κ I) {p' : Dev nD} (hp : p' = peer c)
    {hsc : outM.view.ref.isScScratch = false}
    {hsrc : inM.view.WordExact} {hdst : outM.view.WordExact}
    {hsem : DmaTarget.Typed (nD := nD) (τ := τ) (p := .tc) .vmem (.dma recvA) (.remote (Dev.tc p') outM (.dma sendA) hsc)}
    {cont : PUnit → Prog (TpuEff nD τ sig (Elt F) Λ₀ .tc) PUnit} {Q : PUnit.{1} → sProp 𝕄} :
    iprop(I ∗ holds c inM fullShare (st c) ∗ (∃ Z, holds (peer c) outM fullShare Z) ∗ (∃ W, owes (c : Thread nD τ) (due1 c + dueCopy c) W)
        ∗ dutyTok EA (cl c (.dma sendA)) 0 0 ∗ reached EA (cl c (.dma sendA)) 0
        ∗ dutyTok EA (cl (peer c) (.dma recvA)) 0 0 ∗ reached EA (cl (peer c) (.dma recvA)) 0)
      ⊢ iprop(((cred (tallyAt (cl c (.dma sendA)) 0 NA) ∗ (∃ W, owes (c : Thread nD τ) (due1 c) W)) -∗ wpc c (cont ⟨⟩) Q)
        -∗ wpc c (.op (.enqueueDma inM (.remote (Dev.tc p') outM (.dma sendA) hsc) (.dma recvA) hsrc hdst hsem) cont) Q) := by
  subst hp
  iintro ⟨#HI, Hs, ⟨%Z, Hd⟩, ⟨%W, HO⟩, Ht, #Hr, Ht', #Hr'⟩ Hk
  ihave #Hc := (hW.cells c (.dma sendA) (by rw [kind_send]; decide)) $$ HI
  ihave #Hc' := (hW.cells (peer c) (.dma recvA) (by rw [kind_recv]; decide)) $$ HI
  iapply (Rounds.wp_send_pointsTo 𝒱₀ EA (RdA st) (c : Thread nD τ) none (c' := (peer c : Thread nD τ)) (src := inM) (dst := outM) (sS := .dma sendA)
      (sem := .dma recvA) (q := fullShare) (fs := inM.view.rep (st c)) (fd := outM.view.rep Z) (r₁ := 0) (r₂ := 0) (d₁ := 0) (d₂ := 0)
      (κ₁ := κ (cl c (.dma sendA))) (κ₂ := κ (cl (peer c) (.dma recvA)))
      (mem_dutiesA st kind_send (by decide)) (mem_dutiesA st kind_recv (by decide)) 2 0 NA (amount_outM _)
      (amountA_dma st kind_send (by decide) _ _) (amountA_dma st kind_recv (by decide) _ _) (due1 c) rfl (W := W)
      (by rw [payloadA st kind_send]; rfl)
      (by rw [landed (peer c) outM inM, payloadA st kind_recv]; rw [payA_recv, peer_peer]))
      $$ [Hs Hd HO Ht Ht']
  · isplitr; · iexact Hc
    isplitr; · iexact Hc'
    iframe
    isplitr <;> iassumption
  iintro ⟨H1, HO⟩
  iapply Hk
  iframe
  iexists W
  iexact HO

/-- The wait for a copy's arrival, at either of its ends. -/
theorem waitA {I : sProp 𝕄} [BI.Persistent I] (hW : WorldA st κ I) {sm : DmaSem sig} (hx : kindOf (.dma sm) = x) (h : x ≠ .other) (h' : x ≠ .bar)
    {src dst : Memref sig .tc .vmem S1024x2 .f32} (hN : dst.view.dmaCredit = NA) (i : ℕ) (hi : i < 3)
    {hsrc : src.view.WordExact} {hdst : dst.view.WordExact}
    {cont : PUnit → Prog (TpuEff nD τ sig (Elt F) Λ₀ .tc) PUnit} {Q : PUnit.{1} → sProp 𝕄} :
    iprop(I ∗ cred (tallyAt (cl c (.dma sm)) i NA) ∗ (∃ W, owes (c : Thread nD τ) (due1 c) W) ∗ atPos EA (cl c (.dma sm)) 0 ∅ 0)
      ⊢ iprop((((∃ W, owes (c : Thread nD τ) (due1 c) W) ∗ atPos EA (cl c (.dma sm)) 1 ∅ 0 ∗ payA st c x) -∗ wpc c (cont ⟨⟩) Q)
        -∗ wpc c (.op (.waitDma2 sm src dst hsrc hdst) cont) Q) := by
  iintro ⟨#HI, Hc, ⟨%W, HO⟩, Hat⟩ Hk
  ihave #Hcell := (hW.cells c (.dma sm) (by rw [hx]; exact h)) $$ HI
  ihave #Hlev := hW.levels $$ HI
  iapply (Rounds.wp_wait_rest_token 𝒱₀ EA (RdA st) (c : Thread nD τ) none (κ := κ (cl c (.dma sm)))
      (wpE_waitDma2_eq (src := src) (dst := dst) 𝒱₀ (c : Thread nD τ) none Set.univ) (Set.mem_univ _) i (O := due1 c) (W := W) (R := 0) (m := 0) (T := ∅)
      ((Nat.zero_add _).trans (hN.trans (expectA_dma st hx h h').symm))) $$ [Hc HO Hat]
  · rw [hN]
    isplitr; · iexact Hcell
    isplitl [Hc]; · iexact Hc
    isplitl [HO]; · iexact HO
    isplitr; · iapply (waitA_late (.dma sm) i hi); iexact Hlev
    iexact Hat
  iintro ⟨HO, Hat, -, Hp⟩
  iapply Hk
  isplitl [HO]; · iexists _; iexact HO
  isplitl [Hat]; · iexact Hat
  iapply (Entails.of_eq (restA st hx h)) $$ Hp

/-! ## The body -/

theorem devA1_eq (c : Dev nD) : (⟨k0_dev1 c, k0_dev1_lt c⟩ : Dev nD) = peer c := by revert c; decide +kernel
theorem devA2_eq (c : Dev nD) : (⟨k0_dev2 c, k0_dev2_lt c⟩ : Dev nD) = peer c := by revert c; decide +kernel

set_option maxHeartbeats 1000000 in
/-- The printed body. -/
theorem body0_eq : bodyAt0 (F := F) t0_0 = (do
    let d : Dev nD ← Prog.lift .deviceId
    semSignalWord (⟨k0_dev1 d, k0_dev1_lt d⟩ : Dev nD) barA 1#32
    semWaitWord barA 1#32
    Prog.lift (.enqueueDma inM (.remote (Dev.tc (⟨k0_dev2 d, k0_dev2_lt d⟩ : Dev nD)) outM (.dma sendA)) (.dma recvA) (hstage0_0 0).wordExact (hstage0_1 0).wordExact
      ⟨⟨rfl, Or.inl rfl⟩, trivial⟩)
    Prog.lift (.waitDma2 sendA outM inM (hstage0_1 0).wordExact (hstage0_0 0).wordExact)
    Prog.lift (.waitDma2 recvA inM outM (hstage0_0 0).wordExact (hstage0_1 0).wordExact)
    pure ⟨⟩) := rfl

/-- What a device starts the first call's body with, besides its own two cells opened. -/
def Start0 (c : Dev nD) : sProp 𝕄 :=
  iprop(atPos EA (cl c (.reg barA)) 0 ∅ 0 ∗ reached EA (cl (peer c) (.reg barA)) 0 ∗ dutyTok EA (cl (peer c) (.reg barA)) 0 0
    ∗ dutyTok EA (cl c (.dma sendA)) 0 0 ∗ dutyTok EA (cl (peer c) (.dma recvA)) 0 0
    ∗ cred (tallyAt (cl c (.reg barA)) 1 1) ∗ cred (tallyAt (cl c (.dma recvA)) 2 NA))

/-- THE FIRST CALL'S BODY: each device ends with its peer's statistics. -/
theorem first_ok {I : sProp 𝕄} [BI.Persistent I] (hW : WorldA st κ I) (Q : PUnit.{1} → sProp 𝕄) :
    iprop(I ∗ (posA c (.dma sendA) 0 ∗ posA c (.dma recvA) 0) ∗ Start0 c ∗ holds c inM fullShare (st c) ∗ (∃ X, holds c outM fullShare X)
        ∗ (∃ W, owes (c : Thread nD τ) (due1 c + due0 c) W)
        ∗ ((Pipeline.ownSems0 osem0 c ∗ semVal (cl c (.reg barA)) 0 ∗ holds c inM fullShare (st c) ∗ holds c outM fullShare (st (peer c))
          ∗ (∃ W, owes (c : Thread nD τ) (due1 c) W)) -∗ Q ⟨⟩))
      ⊢ wpc c (bodyAt0 t0_0) Q := by
  rw [body0_eq]
  show _ ⊢ wpc c (.op .deviceId fun d => .op (.semSignal (((⟨k0_dev1 d, k0_dev1_lt d⟩ : Dev nD)) : Thread nD τ) barA ((1 : ℕ) : ℤ))
    fun _ => .op (.semWait barA ((1 : ℕ) : ℤ)) fun _ =>
    .op (.enqueueDma inM (.remote (Dev.tc (⟨k0_dev2 d, k0_dev2_lt d⟩ : Dev nD)) outM (.dma sendA)) (.dma recvA) (hstage0_0 0).wordExact (hstage0_1 0).wordExact
      ⟨⟨rfl, Or.inl rfl⟩, trivial⟩) fun _ =>
    .op (.waitDma2 sendA outM inM (hstage0_1 0).wordExact (hstage0_0 0).wordExact) fun _ =>
    .op (.waitDma2 recvA inM outM (hstage0_0 0).wordExact (hstage0_1 0).wordExact) fun _ => .ret ⟨⟩) Q
  unfold wpc
  rw [wp_deviceId]
  unfold Start0 posA
  iintro ⟨#HI, ⟨⟨Ps, #Rs⟩, Pr, #Rr⟩, ⟨Pb, #Rb, Tb, Ts, Tr, Cb, Cr⟩, Hin, Hout, HO, Hk⟩
  iapply (signalA hW (devA1_eq c)) $$ [Tb Hout HO]
  · isplitr; · iexact HI
    isplitr; · iexact Rb
    iframe
    iexact Rr
  iintro HO
  iapply (meetA hW) $$ [Cb Pb HO]
  · isplitr; · iexact HI
    iframe
  iintro ⟨HO, Pb, Hp⟩
  ihave Hp := (Entails.of_eq (payA_bar st c)) $$ Hp
  icases Hp with ⟨Hd, #Rr'⟩
  iapply (sendA_ok hW (devA2_eq c)) $$ [Hin Hd HO Ts Tr]
  · isplitr; · iexact HI
    iframe
    isplitr; · iexact Rs
    iexact Rr'
  iintro ⟨Cs, HO⟩
  iapply (waitA hW kind_send (by decide) (by decide) credit_inM 0 (by omega)) $$ [Cs HO Ps]
  · isplitr; · iexact HI
    iframe
  iintro ⟨HO, Ps, Hin⟩
  iapply (waitA hW kind_recv (by decide) (by decide) (Eq.refl NA) 2 (by omega)) $$ [Cr HO Pr]
  · isplitr; · iexact HI
    iframe
  iintro ⟨HO, Pr, Hout⟩
  ihave Hin := (Entails.of_eq (payA_send st c)) $$ Hin
  ihave Hout := (Entails.of_eq (payA_recv st c)) $$ Hout
  unfold wpc
  rw [wp_ret]
  imod (closeA hW (sm := .reg barA) (by rw [kind_bar]; decide)) $$ [Pb] with Sb
  · isplitr; · iexact HI
    iexact Pb
  imod (closeA hW (sm := .dma sendA) (by rw [kind_send]; decide)) $$ [Ps] with Ss
  · isplitr; · iexact HI
    iexact Ps
  imod (closeA hW (sm := .dma recvA) (by rw [kind_recv]; decide)) $$ [Pr] with Sr
  · isplitr; · iexact HI
    iexact Pr
  imodintro
  iapply Hk
  unfold Pipeline.ownSems0
  rw [over_osem0]
  iframe
  isplitl [Ss]; · iexact Ss
  iexact Sr

end Cert.KernelIdeal.Halves

end
-- ==== Proof.Fund.lean ====
module

public import proofs.«01_k».proof.Proof.First
public import Idealize.ShloMosaic.Lib.Pipeline.Kit
public import Idealize.ShloMosaic.Lib.Pipeline.Launch

@[expose] public section

noncomputable section

/-! The launch: the cells' invariants made, the rights and credits dealt to the devices. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Families over products -/

def peerE : Dev nD ≃ Dev nD := ⟨peer, peer, peer_peer, peer_peer⟩

/-- What every device has, every device's peer has. -/
theorem around (Φ : Dev nD → sProp 𝕄) : bigSep Finset.univ Φ = bigSep Finset.univ fun c => Φ (peer c) := bigSep_univ_equiv peerE Φ

theorem over_product {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint ({a} ×ˢ t) (s ×ˢ t) := by
      rw [Finset.disjoint_left]
      intro x h1 h2
      rw [Finset.mem_product, Finset.mem_singleton] at h1
      exact ha (h1.1 ▸ (Finset.mem_product.mp h2).1)
    rw [Finset.insert_eq, Finset.union_product, BI.bigSep_union hd, Finset.singleton_product, bigSep_map, ← Finset.insert_eq, BI.bigSep_insert ha, ih]
    rfl

theorem over_fin (n : ℕ) (Φ : ℕ → sProp 𝕄) : bigSep Finset.univ (fun k : Fin n => Φ k.val) = fam 0 n Φ := by
  unfold fam
  rw [show Finset.Ico 0 n = (Finset.univ : Finset (Fin n)).map Fin.valEmbedding by
    ext x
    simp only [Finset.mem_Ico, Finset.mem_map, Finset.mem_univ, true_and, Fin.valEmbedding_apply]
    exact ⟨fun h => ⟨⟨x, h.2⟩, rfl⟩, fun ⟨y, hy⟩ => ⟨Nat.zero_le _, hy ▸ y.isLt⟩⟩]
  exact (bigSep_map (s := Finset.univ) Fin.valEmbedding (Φ := Φ)).symm

theorem cred_family {α : Type} [DecidableEq α] (s : Finset α) (f : α → CellTallies nD τ sig ℕ) :
    (cred (∑ x ∈ s, f x) : sProp 𝕄) = bigSep s fun x => cred (f x) := by
  induction s using Finset.induction_on with
  | empty => rw [Finset.sum_empty, cred_zero, bigSep_empty]; rfl
  | insert a s ha ih =>
    rw [Finset.sum_insert ha, BI.Entails.antisymm (cred_add _ _).1 (cred_add _ _).2, ih, BI.bigSep_insert ha]
    rfl

/-! ## Cells -/

/-- Every device's cell at a semaphore; every device's cells at several. -/
def oneEmb (sm : SemLoc sig) : Dev nD ↪ GSem nD τ sig := ⟨fun c => cl c sm, fun _ _ h => congrArg (fun g : GSem nD τ sig => g.1.1) h⟩
def ownEmb {n : ℕ} (os : Fin n → SemLoc sig) (h : Function.Injective os) : Dev nD × Fin n ↪ GSem nD τ sig :=
  ⟨fun x => cl x.1 (os x.2), fun _ _ e => Prod.ext (congrArg (fun g : GSem nD τ sig => g.1.1) e) (h (congrArg Prod.snd e))⟩
abbrev oneOf (sm : SemLoc sig) : Finset (GSem nD τ sig) := Finset.univ.map (oneEmb sm)
abbrev ownOf {n : ℕ} (os : Fin n → SemLoc sig) (h : Function.Injective os) : Finset (GSem nD τ sig) := Finset.univ.map (ownEmb os h)

theorem cells_disjoint {n : ℕ} {sm : SemLoc sig} {os : Fin n → SemLoc sig} (h : Function.Injective os) (hne : ∀ k, os k ≠ sm) : Disjoint (oneOf sm) (ownOf os h) := by
  rw [Finset.disjoint_left]
  rintro g h₁ h₂
  obtain ⟨c, -, rfl⟩ := Finset.mem_map.mp h₁
  obtain ⟨ck, -, e⟩ := Finset.mem_map.mp h₂
  exact hne ck.2 (congrArg Prod.snd e)
theorem mem_cells {n : ℕ} {sm sm' : SemLoc sig} {os : Fin n → SemLoc sig} (h : Function.Injective os) (c : Dev nD) (hs : sm' = sm ∨ ∃ k, sm' = os k) :
    cl c sm' ∈ oneOf sm ∪ ownOf os h := by
  rcases hs with rfl | ⟨k, rfl⟩
  · exact Finset.mem_union_left _ (Finset.mem_map_of_mem (oneEmb _) (Finset.mem_univ c))
  · exact Finset.mem_union_right _ (Finset.mem_map_of_mem (ownEmb os h) (Finset.mem_univ (c, k)))
theorem over_one (sm : SemLoc sig) (Φ : GSem nD τ sig → sProp 𝕄) : bigSep (oneOf sm) Φ = bigSep Finset.univ fun c : Dev nD => Φ (cl c sm) :=
  bigSep_map (s := Finset.univ) (oneEmb sm) (Φ := Φ)
theorem over_own {n : ℕ} (os : Fin n → SemLoc sig) (h : Function.Injective os) (Φ : GSem nD τ sig → sProp 𝕄) :
    bigSep (ownOf os h) Φ = bigSep Finset.univ fun c : Dev nD => bigSep Finset.univ fun k => Φ (cl c (os k)) := by
  rw [bigSep_map, bigSep_univ_prod]; rfl

theorem osem0_ne (k : Fin 2) : osem0 k ≠ .reg barA := by revert k; decide +kernel
theorem osem1_ne (k : Fin 12) : osem1 k ≠ .reg barS := by revert k; decide +kernel
theorem cellsA_all : ∀ sm : SemLoc sig, kindOf sm ≠ .other → sm = .reg barA ∨ ∃ k, sm = osem0 k := by decide +kernel
theorem cellsB_all : ∀ sm : SemLoc sig, roleOf sm ≠ .other → sm = .reg barS ∨ ∃ k, sm = osem1 k := by decide +kernel

abbrev cellsA : Finset (GSem nD τ sig) := oneOf (.reg barA) ∪ ownOf osem0 osem0_inj
abbrev cellsB : Finset (GSem nD τ sig) := oneOf (.reg barS) ∪ ownOf osem1 osem1_inj

/-! ## Tokens -/

/-- The tokens of the first call: one for each cell. -/
abbrev semsA : Fin 3 → SemLoc sig := ![.reg barA, .dma sendA, .dma recvA]
theorem semsA_inj : Function.Injective semsA := by decide +kernel
def tokA : Dev nD × Fin 3 ↪ GSem nD τ sig × ℕ × ℕ :=
  ⟨fun x => (ownEmb semsA semsA_inj x, 0, 0), fun _ _ e => (ownEmb semsA semsA_inj).injective (congrArg Prod.fst e)⟩
def toksA : Finset (GSem nD τ sig × ℕ × ℕ) := Finset.univ.map tokA
theorem over_toksA (Φ : GSem nD τ sig × ℕ × ℕ → sProp 𝕄) : bigSep toksA Φ
    = bigSep Finset.univ fun c : Dev nD => iprop(Φ (cl c (.reg barA), 0, 0) ∗ Φ (cl c (.dma sendA), 0, 0) ∗ Φ (cl c (.dma recvA), 0, 0)) := by
  unfold toksA
  rw [bigSep_map, bigSep_univ_prod]
  exact bigSep_congr fun c _ => bigSep_univ_eq_bigSepL [(0 : Fin 3), 1, 2] (by decide) (by decide) _

/-- The tokens of the second call about chunk `k`. -/
def tokAt (c : Dev nD) (i k : ℕ) : GSem nD τ sig × ℕ × ℕ :=
  match i with
  | 0 => (cl c (.dma (stageSem k)), k / 2, 0)
  | 1 => (cl c (.dma locSem), k, 0)
  | 2 => (cl c (.dma (outSem k)), k / 2, 0)
  | 3 => (cl c (.dma (sendSem k)), k / 2, 0)
  | 4 => (cl c (.dma (recvSem k)), k / 4, 0)
  | _ => (cl c (.reg credS), 0, k)
/-- Which token it is, read back. -/
def Role.index : Role → ℕ
  | .stage _ => 0 | .loc => 1 | .out _ => 2 | .send _ => 3 | .recv _ => 4 | .credit => 5 | _ => 6
def tokOf (x : GSem nD τ sig × ℕ × ℕ) : Dev nD × ℕ × ℕ :=
  (x.1.1.1, (roleOf x.1.2).index, if roleOf x.1.2 = .credit then x.2.2 else (roleOf x.1.2).chunk x.2.1)
theorem tokOf_eq {c : Dev nD} {sm : SemLoc sig} {ρ : Role} (h : roleOf sm = ρ) (hρ : ρ ≠ .credit) (r u : ℕ) :
    tokOf (cl c sm, r, u) = (c, ρ.index, ρ.chunk r) := by
  subst h; exact Prod.ext rfl (Prod.ext rfl (if_neg hρ))
theorem tokOf_credit (c : Dev nD) (k : ℕ) : tokOf (cl c (.reg credS), 0, k) = (c, 5, k) :=
  Prod.ext rfl (Prod.ext (congrArg Role.index role_credit) (by
    show (if roleOf (.reg credS) = .credit then k else (roleOf (.reg credS)).chunk 0) = k
    rw [if_pos role_credit]))
theorem halve (k : ℕ) : 2 * (k / 2) + k % 2 = k := by omega
theorem quarter (k : ℕ) : 4 * (k / 4) + k % 4 = k := by omega
theorem tokOf_at (c : Dev nD) (i k : ℕ) (hi : i < 6) : tokOf (tokAt c i k) = (c, i, k) :=
  match i, hi with
  | 0, _ => (tokOf_eq (role_stage k) (by intro h; cases h) _ _).trans (Prod.ext rfl (Prod.ext rfl (halve k)))
  | 1, _ => (tokOf_eq role_loc (by intro h; cases h) _ _).trans rfl
  | 2, _ => (tokOf_eq (role_out k) (by intro h; cases h) _ _).trans (Prod.ext rfl (Prod.ext rfl (halve k)))
  | 3, _ => (tokOf_eq (role_send k) (by intro h; cases h) _ _).trans (Prod.ext rfl (Prod.ext rfl (halve k)))
  | 4, _ => (tokOf_eq (role_recv k) (by intro h; cases h) _ _).trans (Prod.ext rfl (Prod.ext rfl (quarter k)))
  | 5, _ => tokOf_credit c k
def tokB : Dev nD × Fin 6 × Fin 16 ↪ GSem nD τ sig × ℕ × ℕ :=
  ⟨fun x => tokAt x.1 x.2.1.val x.2.2.val, fun x y e => by
    have e := congrArg tokOf e
    rw [tokOf_at _ _ _ x.2.1.isLt, tokOf_at _ _ _ y.2.1.isLt] at e
    exact Prod.ext (congrArg (fun z : Dev nD × ℕ × ℕ => z.1) e)
      (Prod.ext (Fin.ext (congrArg (fun z : Dev nD × ℕ × ℕ => z.2.1) e)) (Fin.ext (congrArg (fun z : Dev nD × ℕ × ℕ => z.2.2) e)))⟩
def barTok : Dev nD ↪ GSem nD τ sig × ℕ × ℕ :=
  ⟨fun c => (cl c (.reg barS), 0, 0), fun _ _ e => (oneEmb (.reg barS)).injective (congrArg Prod.fst e)⟩
def toksB : Finset (GSem nD τ sig × ℕ × ℕ) := Finset.univ.map barTok ∪ Finset.univ.map tokB
theorem toksB_disjoint : Disjoint ((Finset.univ : Finset (Dev nD)).map barTok) (Finset.univ.map tokB) := by
  rw [Finset.disjoint_left]
  rintro g h₁ h₂
  obtain ⟨c, -, rfl⟩ := Finset.mem_map.mp h₁
  obtain ⟨x, -, e⟩ := Finset.mem_map.mp h₂
  have e : (tokOf (tokB x)).2.1 = (tokOf (barTok c)).2.1 := congrArg (fun z => (tokOf z).2.1) e
  have e1 : (tokOf (tokB x)).2.1 = x.2.1.val := congrArg (fun z => z.2.1) (tokOf_at x.1 x.2.1.val x.2.2.val x.2.1.isLt)
  have e2 : (tokOf (barTok c)).2.1 = 6 := by show (roleOf (.reg barS)).index = 6; rw [role_bar]; rfl
  have := x.2.1.isLt
  omega
theorem over_toksB (Φ : GSem nD τ sig × ℕ × ℕ → sProp 𝕄) : bigSep toksB Φ
    = iprop((bigSep Finset.univ fun c : Dev nD => Φ (cl c (.reg barS), 0, 0)) ∗ bigSep Finset.univ fun c : Dev nD =>
      iprop(fam 0 16 (fun k => Φ (tokAt c 0 k)) ∗ fam 0 16 (fun k => Φ (tokAt c 1 k)) ∗ fam 0 16 (fun k => Φ (tokAt c 2 k))
        ∗ fam 0 16 (fun k => Φ (tokAt c 3 k)) ∗ fam 0 16 (fun k => Φ (tokAt c 4 k)) ∗ fam 0 16 (fun k => Φ (tokAt c 5 k)))) := by
  unfold toksB
  refine (BI.bigSep_union toksB_disjoint).trans ?_
  rw [bigSep_map, bigSep_map, bigSep_univ_prod]
  refine congrArg (fun X : sProp 𝕄 => iprop((bigSep Finset.univ fun c : Dev nD => Φ (cl c (.reg barS), 0, 0)) ∗ X)) (bigSep_congr fun c _ => ?_)
  rw [bigSep_univ_prod]
  have h (i : Fin 6) : (bigSep Finset.univ fun k : Fin 16 => Φ (tokB (c, i, k))) = fam 0 16 (fun k => Φ (tokAt c i.val k)) :=
    over_fin 16 fun k => Φ (tokAt c i.val k)
  rw [bigSep_congr fun i _ => h i]
  exact bigSep_univ_eq_bigSepL [(0 : Fin 6), 1, 2, 3, 4, 5] (by decide) (by decide) _

/-! ## Slots -/

/-- The receiving slots of every device. -/
abbrev slotKeys : Finset (Dev nD × ℕ) := Finset.univ ×ˢ Finset.range 4

theorem over_slots (Φ : Dev nD × ℕ → sProp 𝕄) : bigSep slotKeys Φ = bigSep Finset.univ fun c : Dev nD => fam 0 4 fun k => Φ (c, k) := by
  unfold slotKeys
  rw [over_product]
  unfold fam
  rw [Nat.Ico_zero_eq_range]

def turnEmb : Dev nD × ℕ ↪ (Dev nD × ℕ) × ℕ :=
  ⟨fun x => ((x.1, x.2 % 4), x.2 / 4), fun x y e => by
    have e1 : x.1 = y.1 := congrArg (fun z : (Dev nD × ℕ) × ℕ => z.1.1) e
    have e2 : x.2 % 4 = y.2 % 4 := congrArg (fun z : (Dev nD × ℕ) × ℕ => z.1.2) e
    have e3 : x.2 / 4 = y.2 / 4 := congrArg (fun z : (Dev nD × ℕ) × ℕ => z.2) e
    exact Prod.ext e1 (by omega)⟩
/-- The turns of the slots, chunk by chunk. -/
theorem over_turns (Φ : (Dev nD × ℕ) × ℕ → sProp 𝕄) :
    bigSep (slotKeys ×ˢ Finset.range 5) Φ = bigSep Finset.univ fun c : Dev nD => fam 0 20 fun k => Φ ((c, k % 4), k / 4) := by
  rw [show slotKeys ×ˢ Finset.range 5 = ((Finset.univ : Finset (Dev nD)) ×ˢ Finset.Ico 0 20).map turnEmb by
    ext ⟨⟨c, s⟩, n⟩
    simp only [Finset.mem_product, Finset.mem_univ, true_and, Finset.mem_range, Finset.mem_map, Finset.mem_Ico]
    constructor
    · rintro ⟨h1, h2⟩
      exact ⟨(c, 4 * n + s), ⟨Nat.zero_le _, show 4 * n + s < 20 by omega⟩,
        Prod.ext (Prod.ext rfl (show (4 * n + s) % 4 = s by omega)) (show (4 * n + s) / 4 = n by omega)⟩
    · rintro ⟨⟨c', k⟩, ⟨-, hk⟩, e⟩
      have e2 : k % 4 = s := congrArg (fun z : (Dev nD × ℕ) × ℕ => z.1.2) e
      have e3 : k / 4 = n := congrArg (fun z : (Dev nD × ℕ) × ℕ => z.2) e
      have hk' : k < 20 := hk
      omega, bigSep_map, over_product]
  rfl

theorem fam_split {a b n : ℕ} (h : a ≤ b) (h' : b ≤ n) (Φ : ℕ → sProp 𝕄) : fam a n Φ = iprop(fam a b Φ ∗ fam b n Φ) := by
  unfold fam
  rw [← Finset.Ico_union_Ico_eq_Ico h h']
  exact BI.bigSep_union (Finset.Ico_disjoint_Ico_consecutive a b n)

/-- The slots' tokens as the devices need them. -/
theorem slot_deal :
    iprop(bigSep slotKeys (fun k => Release.readerAt ES k 0) ∗ bigSep (slotKeys ×ˢ Finset.range 5) (fun x => Release.writeTok ES x.1 (x.2 + 1)))
      ⊢ (bigSep Finset.univ fun c : Dev nD => SlotToks c : sProp 𝕄) := by
  rw [over_slots, over_turns]
  rw [bigSep_congr (s := Finset.univ) fun (c : Dev nD) _ => fam_split (F := F) (a := 0) (b := 16) (n := 20) (by omega) (by omega)
    fun k => Release.writeTok ES (c, k % 4) (k / 4 + 1)]
  rw [bigSep_sep', around fun c => fam 0 16 fun k => Release.writeTok ES (c, k % 4) (k / 4 + 1)]
  unfold SlotToks
  rw [bigSep_sep', bigSep_sep']
  rw [bigSep_congr (s := Finset.univ) fun (c : Dev nD) _ => fam_congr (F := F) (a := 16) (b := 20) (Φ := fun k => Release.writeTok ES (c, k % 4) (k / 4 + 1))
    (Ψ := fun k => Release.writeTok ES (c, k % 4) 5) fun k h1 h2 => by rw [show k / 4 + 1 = 5 by omega]]
  rw [bigSep_congr (s := Finset.univ) fun (c : Dev nD) _ => fam_congr (F := F) (a := 0) (b := 4) (Φ := fun k => Release.readerAt ES (c, k) 0)
    (Ψ := fun k => Release.readerAt ES (c, k % 4) (k / 4)) fun k h1 h2 => by rw [show k % 4 = k by omega, show k / 4 = 0 by omega]]

/-! ## Credits -/

/-- What a device owes at launch. -/
def due (c : Dev nD) : CellTallies nD τ sig ℕ := due1 c + due0 c

theorem owed_at {c : Dev nD} {s r : ℕ} {g : GSem nD τ sig} {j : ℕ} (h : 0 < owed c s r g j) : g.1 = (peer c : Thread nD τ) := by
  unfold owed at h
  rw [Pi.add_apply, Finsupp.add_apply] at h
  rcases Nat.add_pos_iff_pos_or_pos.mp h with h | h
  · obtain ⟨k, hk, rfl, rfl⟩ := sum_tally_pos h; rfl
  · obtain ⟨k, hk, rfl, rfl⟩ := sum_tally_pos h; rfl
theorem due_at {c : Dev nD} {g : GSem nD τ sig} {j : ℕ} (h : 0 < due c g j) : g.1 = (peer c : Thread nD τ) := by
  unfold due due1 due0 dueCopy at h
  simp only [Pi.add_apply, Finsupp.add_apply] at h
  rcases Nat.add_pos_iff_pos_or_pos.mp h with h | h
  · rcases Nat.add_pos_iff_pos_or_pos.mp h with h | h
    · exact owed_at h
    · obtain ⟨rfl, rfl⟩ := Pipeline.tallyAt_pos h; rfl
  · rcases Nat.add_pos_iff_pos_or_pos.mp h with h | h
    · obtain ⟨rfl, rfl⟩ := Pipeline.tallyAt_pos h; rfl
    · obtain ⟨rfl, rfl⟩ := Pipeline.tallyAt_pos h; rfl

theorem cred_eq (a b : CellTallies nD τ sig ℕ) : (cred (a + b) : sProp 𝕄) = iprop(cred a ∗ cred b) :=
  BI.Entails.antisymm (cred_add _ _).1 (cred_add _ _).2

/-- The launch credit of a device, taken apart. -/
theorem credits (c : Dev nD) :
    (Pipeline.launchCred due c : sProp 𝕄) ⊢ iprop(Credits c ∗ cred (tallyAt (cl c (.reg barA)) 1 1) ∗ cred (tallyAt (cl c (.dma recvA)) 2 NA)) := by
  rw [Pipeline.launchCred_of_sum due (fun d => due (peer d)) (Equiv.sum_comp peerE due).symm (fun d g h => by
    obtain ⟨j, hj⟩ := Finsupp.ne_iff.mp h
    have := due_at (Nat.pos_of_ne_zero hj)
    rw [peer_peer] at this
    exact this)]
  unfold due due1 due0 dueCopy owed Credits fam
  rw [peer_peer]
  simp only [cred_eq, cred_family]
  iintro ⟨⟨⟨H1, H2⟩, H3⟩, H4, H5⟩
  iframe

/-! ## Everything dealt -/

variable (st : Dev nD → S1024x2.Idx → Elt F .f32) (lg : Dev nD → main_v1.ty.Contents (Elt F)) (Y : Dev nD → ℕ → S64x16384.Idx → Elt F .f32)

abbrev Levels : sProp 𝕄 := levAts (SiteBlocks.L 40) SiteBlocks.lv

/-- The first call's invariants, at the names chosen. -/
def IA (κ : GSem nD τ sig → ℕ) : sProp 𝕄 := iprop(bigSep cellsA (fun g => cellInv EA (RdA st) (κ g) g) ∗ Levels)
instance IA_persistent (κ : GSem nD τ sig → ℕ) : BI.Persistent (IA st κ) := by unfold IA; infer_instance
theorem IA_world (κ : GSem nD τ sig → ℕ) : WorldA st κ (IA st κ) where
  cells d sm h := by
    unfold IA
    iintro ⟨H, -⟩
    have e : bigSep cellsA (fun g => cellInv EA (RdA st) (κ g) g) ⊢ (cellInv EA (RdA st) (κ (cl d sm)) (cl d sm) : sProp 𝕄) :=
      bigSep_elim (mem_cells osem0_inj d (cellsA_all sm h))
    iapply e $$ H
  levels := by unfold IA; iintro ⟨-, H⟩; iexact H

/-- The second call's invariants, at the names chosen. -/
def IB (κ : GSem nD τ sig → ℕ) (ιs : Dev nD × ℕ → ℕ) : sProp 𝕄 :=
  iprop(bigSep cellsB (fun g => cellInv EB (Rd lg Y) (κ g) g) ∗ bigSep slotKeys (fun k => Release.slotInv ES (ιs k) k (Sl k)) ∗ Levels)
instance IB_persistent (κ : GSem nD τ sig → ℕ) (ιs : Dev nD × ℕ → ℕ) : BI.Persistent (IB lg Y κ ιs) := by unfold IB; infer_instance
theorem IB_world (κ : GSem nD τ sig → ℕ) (ιs : Dev nD × ℕ → ℕ) : World0 lg Y κ ιs (IB lg Y κ ιs) where
  cells d sm h := by
    unfold IB
    iintro ⟨H, -⟩
    have e : bigSep cellsB (fun g => cellInv EB (Rd lg Y) (κ g) g) ⊢ (cellInv EB (Rd lg Y) (κ (cl d sm)) (cl d sm) : sProp 𝕄) :=
      bigSep_elim (mem_cells osem1_inj d (cellsB_all sm h))
    iapply e $$ H
  slots d s h := by
    unfold IB
    iintro ⟨-, H, -⟩
    have e : bigSep slotKeys (fun k => Release.slotInv ES (ιs k) k (Sl k)) ⊢ (Release.slotInv ES (ιs (d, s)) (d, s) (Sl (d, s)) : sProp 𝕄) :=
      bigSep_elim (Finset.mem_product.mpr ⟨Finset.mem_univ d, Finset.mem_range.mpr h⟩)
    iapply e $$ H
  levels := by unfold IB; iintro ⟨-, -, H⟩; iexact H

/-- What a device keeps for the first call, and for the second. -/
def Keep0 (c : Dev nD) : sProp 𝕄 :=
  iprop(∃ κ, IA st κ ∗ bigSep Finset.univ (fun k => openTok EA (cl c (osem0 k))) ∗ Start0 c)
def Keep1 (c : Dev nD) : sProp 𝕄 :=
  iprop(∃ κ ιs, IB lg Y κ ιs ∗ bigSep Finset.univ (fun k => openTok EB (cl c (osem1 k))) ∗ Tokens c ∗ Credits c ∗ SlotToks c ∗ Gate c)

/-- The ghost state of both calls at launch. -/
abbrev launchG : URounds (GSem nD τ sig) ℕ × (URounds (GSem nD τ sig) ℕ × Release.USlots (Dev nD × ℕ)) :=
  (launchOf (oneOf (.reg barA)) (ownOf osem0 osem0_inj) toksA, launchOf (oneOf (.reg barS)) (ownOf osem1 osem1_inj) toksB, Release.initSlots slotKeys 5)

theorem fundA :
    iprop((bigSep Finset.univ fun c : Dev nD => semVal (cl c (.reg barA)) 0) ∗ BI.own (EA (launchOf (oneOf (.reg barA)) (ownOf osem0 osem0_inj) toksA)) ∗ Levels)
      ⊢ (|={Set.univ}=> ∃ κ, IA st κ ∗ bigSep Finset.univ (fun c : Dev nD => iprop(bigSep Finset.univ (fun k => openTok EA (cl c (osem0 k)))
          ∗ atPos EA (cl c (.reg barA)) 0 ∅ 0 ∗ reached EA (cl (peer c) (.reg barA)) 0 ∗ dutyTok EA (cl (peer c) (.reg barA)) 0 0
          ∗ dutyTok EA (cl c (.dma sendA)) 0 0 ∗ dutyTok EA (cl (peer c) (.dma recvA)) 0 0)) : sProp 𝕄) := by
  iintro ⟨Hv, Hu, #HL⟩
  imod (Rounds.fund_launch EA (RdA st) (cells_disjoint osem0_inj osem0_ne) (fun g _ h => h) toksA) $$ [Hv Hu] with ⟨%κ, -, #Hinv, Hr, Hat, Hopen, Htok⟩
  · isplitl [Hv]
    · rw [over_one]; iexact Hv
    · iexact Hu
  imodintro
  iexists κ
  isplitr
  · unfold IA
    isplitr <;> iassumption
  rw [bigSep_sep', bigSep_sep', bigSep_sep', bigSep_sep', bigSep_sep', ← around fun c => reached EA (cl c (.reg barA)) 0,
    ← around fun c => dutyTok EA (cl c (.reg barA)) 0 0, ← around fun c => dutyTok EA (cl c (.dma recvA)) 0 0,
    ← over_one (.reg barA) fun g => reached EA g 0, ← over_one (.reg barA) fun g => atPos EA g 0 ∅ 0, ← over_own osem0 osem0_inj fun g => openTok EA g]
  ihave Htok := (Entails.of_eq ((over_toksA fun x => dutyTok EA x.1 x.2.1 x.2.2).trans ((bigSep_sep' _ _ _).trans
    (congrArg (fun X : sProp 𝕄 => iprop((bigSep Finset.univ fun c : Dev nD => dutyTok EA (cl c (.reg barA)) 0 0) ∗ X)) (bigSep_sep' _ _ _))))) $$ Htok
  icases Htok with ⟨T1, T2, T3⟩
  iframe

theorem fundB :
    iprop((bigSep Finset.univ fun c : Dev nD => semVal (cl c (.reg barS)) 0)
        ∗ BI.own (EB (launchOf (oneOf (.reg barS)) (ownOf osem1 osem1_inj) toksB)) ∗ BI.own (ES (Release.initSlots slotKeys 5)) ∗ Levels)
      ⊢ (|={Set.univ}=> ∃ κ ιs, IB lg Y κ ιs ∗ bigSep Finset.univ (fun c : Dev nD => iprop(bigSep Finset.univ (fun k => openTok EB (cl c (osem1 k)))
          ∗ Tokens c ∗ SlotToks c ∗ Gate c)) : sProp 𝕄) := by
  iintro ⟨Hv, Hu, Hs, #HL⟩
  imod (Rounds.fund_launch EB (Rd lg Y) (cells_disjoint osem1_inj osem1_ne) (fun g _ h => h) toksB) $$ [Hv Hu] with ⟨%κ, -, #Hinv, Hr, Hat, Hopen, Htok⟩
  · isplitl [Hv]
    · rw [over_one]; iexact Hv
    · iexact Hu
  imod (Release.slots_init ES slotKeys 5 (fun k => Sl (F := F) k)) $$ Hs with ⟨%ιs, -, #Hsl, Hrd, Hwt⟩
  imodintro
  iexists κ
  iexists ιs
  isplitr
  · unfold IB
    isplitr; · iexact Hinv
    isplitr <;> iassumption
  unfold Tokens Gate
  simp only [bigSep_sep']
  rw [← around fun c => reached EB (cl c (.reg barS)) 0,
    ← around fun c => dutyTok EB (cl c (.reg barS)) 0 0, ← around fun c => fam 0 16 (fun k => dutyTok EB (cl c (.dma (recvSem k))) (k / 4) 0),
    ← around fun c => fam 0 16 (fun k => dutyTok EB (cl c (.reg credS)) 0 k),
    ← over_one (.reg barS) fun g => reached EB g 0, ← over_one (.reg barS) fun g => atPos EB g 0 ∅ 0, ← over_own osem1 osem1_inj fun g => openTok EB g]
  ihave Htok := (Entails.of_eq (over_toksB fun x => dutyTok EB x.1 x.2.1 x.2.2)) $$ Htok
  simp only [bigSep_sep']
  icases Htok with ⟨T0, T1, T2, T3, T4, T5, T6⟩
  ihave Hw := (slot_deal (F := F)) $$ [Hrd Hwt]
  · isplitl [Hrd] <;> iassumption
  unfold tokAt
  iframe

/-- THE LAUNCH'S GHOST STATE, dealt to the devices. -/
theorem deal :
    iprop((bigSep Finset.univ fun c : Dev nD => iprop((semVal (cl c (.reg barA)) 0 ∗ semVal (cl c (.reg barS)) 0) ∗ Pipeline.launchCred due c))
        ∗ BI.own (EC launchG) ∗ Levels)
      ⊢ (|={Set.univ}=> bigSep Finset.univ (fun c : Dev nD => iprop(Keep0 st c ∗ Keep1 lg Y c)) : sProp 𝕄) := by
  rw [bigSep_sep', bigSep_sep']
  iintro ⟨⟨⟨Va, Vb⟩, Hc⟩, Hu, #HL⟩
  ihave Hu := (own_pair_emb EC _ _) $$ Hu
  icases Hu with ⟨Ua, Hu⟩
  ihave Hu := (own_pair_emb EC' _ _) $$ Hu
  icases Hu with ⟨Ub, Us⟩
  imod (fundA st) $$ [Va Ua] with ⟨%κa, #HIa, HA⟩
  · iframe
    iexact HL
  imod (fundB lg Y) $$ [Vb Ub Us] with ⟨%κb, %ιs, #HIb, HB⟩
  · iframe
    iexact HL
  imodintro
  iapply (bigSep_with_persistent (R := iprop(IA st κa ∗ IB lg Y κb ιs)) (Φ := fun c : Dev nD => iprop(Pipeline.launchCred due c
      ∗ (bigSep Finset.univ (fun k => openTok EA (cl c (osem0 k)))
          ∗ atPos EA (cl c (.reg barA)) 0 ∅ 0 ∗ reached EA (cl (peer c) (.reg barA)) 0 ∗ dutyTok EA (cl (peer c) (.reg barA)) 0 0
          ∗ dutyTok EA (cl c (.dma sendA)) 0 0 ∗ dutyTok EA (cl (peer c) (.dma recvA)) 0 0)
      ∗ (bigSep Finset.univ (fun k => openTok EB (cl c (osem1 k))) ∗ Tokens c ∗ SlotToks c ∗ Gate c))) fun c _ => by
    iintro ⟨⟨#HIa, #HIb⟩, Hc, ⟨A1, A2, A3, A4, A5, A6⟩, ⟨B1, B2, B3, B4⟩⟩
    ihave Hc := (credits c) $$ Hc
    icases Hc with ⟨C1, C2, C3⟩
    unfold Keep0 Keep1 Start0
    isplitl [A1 A2 A3 A4 A5 A6 C2 C3]
    · iexists κa
      isplitr; · iexact HIa
      iframe
    iexists κb
    iexists ιs
    isplitr; · iexact HIb
    iframe)
  isplitr
  · isplitr <;> iassumption
  iapply (Entails.of_eq ((bigSep_sep' _ _ _).trans (congrArg (fun X : sProp 𝕄 => iprop(bigSep Finset.univ (Pipeline.launchCred due) ∗ X)) (bigSep_sep' _ _ _))).symm)
  isplitl [Hc]; · iexact Hc
  isplitl [HA] <;> iassumption

end Cert.KernelIdeal.Halves

end
-- ==== Proof.Body.lean ====
module

public import proofs.«01_k».proof.Proof.Fund
public import proofs.«01_k».proof.Proof.Second
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry
public import Idealize.ShloMosaic.Lib.Pipeline.TableIdle

@[expose] public section

noncomputable section

/-! What the buffers hold between the calls, and the two calls' bodies as the pipeline asks for them. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ)

/-! ## Contents -/

/-- The statistics a device sends: what its window of them holds. -/
def st (c : Dev nD) : S1024x2.Idx → Elt F .f32 := ((cfg0.win 0).blk t0_0).view.read (Elt F) (V1 m c main_v9)

/-- After the first call the result of it is the peer's statistics. -/
def mid (c : Dev nD) : main_v10.ty.Contents (Elt F) := st m (peer c)
def outs1 : Gen.Outs (F := F) := fun _ r c => Function.update (V1 m c) (Proc.devRef .tc main_v10) (mid m c) (Proc.devRef .tc r)

theorem V2_v10 (c : Dev nD) : V2 m (outs1 m) c main_v10 = mid m c := by
  unfold V2 outs1
  rw [Function.update_self, Function.update_self]

/-- The logits, and the two columns the second call scales by. -/
def lg (c : Dev nD) : main_v1.ty.Contents (Elt F) := V3 m (outs1 m) c main_v1
def mst (c : Dev nD) : S1024x1.Idx → Elt F .f32 := ((cfg1.win 0).blk t1_0).view.read (Elt F) (V3 m (outs1 m) c main_v13)
def sst (c : Dev nD) : S1024x1.Idx → Elt F .f32 := ((cfg1.win 1).blk t1_0).view.read (Elt F) (V3 m (outs1 m) c main_v22)

/-- Chunk `k` of what a device computes. -/
def Yk (c : Dev nD) (k : ℕ) (hk : k < 16) : S64x16384.Idx → Elt F .f32 :=
  scaled (mRef.view.readAt (Elt F) (statRect k hk).toLoadRect (mRef.view.rep (mst m c))) (sRef.view.readAt (Elt F) (statRect k hk).toLoadRect (sRef.view.rep (sst m c)))
    ((logitsRows k hk).view.read (Elt F) (lg m c))
def Y (c : Dev nD) (k : ℕ) : S64x16384.Idx → Elt F .f32 := if hk : k < 16 then Yk m c k hk else Yk m c 0 (by decide)
theorem Y_eq (c : Dev nD) (k : ℕ) (hk : k < 16) : Y m c k = Yk m c k hk := dif_pos hk

/-- An index within a chunk. -/
def inChunk (i : S1024x32768.Idx) : S64x16384.Idx :=
  fun a => match a with
    | ⟨0, _⟩ => ⟨(i 0).val % 64, Nat.mod_lt _ (by decide)⟩
    | ⟨1, _⟩ => ⟨(i 1).val % 16384, Nat.mod_lt _ (by decide)⟩
/-- Whose half column `j` is, seen from `c`. -/
def owner (c : Dev nD) (j : ℕ) : Dev nD := if j / 16384 = c.val % 2 then c else peer c

/-- The result: each half from the device that computes it. -/
def OUT (c : Dev nD) : main_v23.ty.Contents (Elt F) := fun i : S1024x32768.Idx => Y m (owner c (i 1).val) ((i 0).val / 64) (inChunk i)

/-- A chunk's half of the result, wherever it begins. -/
theorem OUT_part (c d : Dev nD) (k : ℕ) (off : Fin 2 → ℕ) (inb : ∀ a, off a + S64x16384.size a ≤ S1024x32768.size a) (h0 : off 0 = 64 * k)
    (h1 : off 1 = 16384 * (off 1 / 16384)) (hd : owner c (off 1) = d) :
    ((Memref.whole main_v23).slice (Rect.unit (s := S1024x32768) off S64x16384.size inb) (fun _ => rfl)).view.read (Elt F) (OUT m c) = Y m d k := by
  funext j
  obtain ⟨i, hi, e0, e1⟩ : ∃ i : S1024x32768.Idx, i = (Rect.unit (s := S1024x32768) off S64x16384.size inb).emb j
      ∧ (i 0).val = off 0 + 1 * (j 0).val ∧ (i 1).val = off 1 + 1 * (j 1).val := ⟨_, rfl, rfl, rfl⟩
  show Y m (owner c ((Rect.unit (s := S1024x32768) off S64x16384.size inb).emb j 1).val) (((Rect.unit (s := S1024x32768) off S64x16384.size inb).emb j 0).val / 64)
    (inChunk ((Rect.unit (s := S1024x32768) off S64x16384.size inb).emb j)) = Y m d k j
  rw [← hi]
  have l0 : (j 0).val < 64 := (j 0).isLt
  have l1 : (j 1).val < 16384 := (j 1).isLt
  have a : owner c (i 1).val = d := by
    rw [← hd]; unfold owner; rw [show (i 1).val / 16384 = off 1 / 16384 by omega]
  have b : (i 0).val / 64 = k := by omega
  have e : inChunk i = j := by
    funext x
    fin_cases x
    · exact Fin.ext (show (i 0).val % 64 = (j 0).val by omega)
    · exact Fin.ext (show (i 1).val % 16384 = (j 1).val by omega)
  rw [a, b, e]

theorem OUT_own (c : Dev nD) (k : ℕ) (hk : k < 16) : (outOwn c k hk).view.read (Elt F) (OUT m c) = Y m c k :=
  OUT_part m c c k _ _ (by rw [ownOff_eq k hk c]; rfl)
    (by rw [ownOff_eq k hk c]; show 16384 * (c.val % 2) = 16384 * (16384 * (c.val % 2) / 16384); omega)
    (by rw [ownOff_eq k hk c]; exact if_pos (show 16384 * (c.val % 2) / 16384 = c.val % 2 by omega))
theorem OUT_peer (c : Dev nD) (k : ℕ) (hk : k < 16) : (outPeer c k hk).view.read (Elt F) (OUT m c) = Y m (peer c) k :=
  OUT_part m c (peer c) k _ _ (by rw [peerOff_eq k hk c]; rfl)
    (by rw [peerOff_eq k hk c]; show 16384 - 16384 * (c.val % 2) = 16384 * ((16384 - 16384 * (c.val % 2)) / 16384); omega)
    (by rw [peerOff_eq k hk c]; exact if_neg (show ¬ (16384 - 16384 * (c.val % 2)) / 16384 = c.val % 2 by omega))

/-- What the buffers hold at the end. -/
abbrev Vend (c : Dev nD) : Valuation τ sig (Elt F) := Function.update (V3 m (outs1 m) c) (Proc.devRef .tc main_v23) (OUT m c)

/-! ## The calls' proof data -/

/-- The first call's. -/
def dat0 (c : Dev nD) : Dat τ (Elt F) ℕ ℕ UU ℕ cfg0 c where
  A w := V1 m c (Proc.devRef .tc (Pipeline.arrRef spec0 w))
  after w _ := match w with
    | ⟨0, _⟩ => st m c
    | ⟨1, _⟩ => st m (peer c)
  Φ t := match t with
    | ⟨0, _⟩ => iprop((∃ κ, IA (st m) κ ∗ (posA c (.dma sendA) 0 ∗ posA c (.dma recvA) 0) ∗ Start0 c) ∗ (∃ r, prngReg c r) ∗ Pipeline.scopedRest spec0 c)
    | ⟨_ + 1, _⟩ => iprop(Pipeline.ownSems0 osem0 c ∗ semVal (cl c (.reg barA)) 0 ∗ (∃ r, prngReg c r) ∗ Pipeline.scopedRest spec0 c)
  q _ := fullShare
  owed t := match t with
    | ⟨0, _⟩ => due1 c + due0 c
    | ⟨_ + 1, _⟩ => due1 c

/-- The second call's. -/
def dat1 (c : Dev nD) : Dat τ (Elt F) ℕ ℕ UU ℕ cfg1 c where
  A w := V3 m (outs1 m) c (Proc.devRef .tc (Pipeline.arrRef spec1 w))
  after w _ := match w with
    | ⟨0, _⟩ => mst m c
    | ⟨1, _⟩ => sst m c
  Φ t := match t with
    | ⟨0, _⟩ => iprop((∃ κ ιs, IB (lg m) (Y m) κ ιs ∗ Opened c ∗ Tokens c ∗ Credits c ∗ SlotToks c ∗ Gate c)
        ∗ ptL (lg m) c ∗ ((c : Thread nD τ).loc main_v23 ↦{fullShare} (V3 m (outs1 m) c main_v23)) ∗ (∃ r, prngReg c r) ∗ Pipeline.scopedRest spec1 c)
    | ⟨_ + 1, _⟩ => iprop(Pipeline.ownSems0 osem1 c ∗ semVal (cl c (.reg barS)) 0
        ∗ ptL (lg m) c ∗ ((c : Thread nD τ).loc main_v23 ↦{fullShare} OUT m c) ∗ (∃ r, prngReg c r) ∗ Pipeline.scopedRest spec1 c)
  q _ := fullShare
  owed t := match t with
    | ⟨0, _⟩ => due1 c
    | ⟨_ + 1, _⟩ => 0

def pdats : (p : Fin 2) → (c : Dev nD) → Dat τ (Elt F) ℕ ℕ UU ℕ (Pipeline.pin (pcfgs (F := F)) Gen.adm p) c
  | 0 => dat0 m
  | 1 => dat1 m

theorem before0 (c : Dev nD) (d : (cfg0.win 0).block.Idx → Elt F (cfg0.win 0).elt) : (dat0 m c).before 0 t0_0 d = st m c := by
  unfold Pipeline.Dat.before; rw [if_pos (by decide)]; rfl
theorem before1_0 (c : Dev nD) (d : (cfg1.win 0).block.Idx → Elt F (cfg1.win 0).elt) : (dat1 m c).before 0 t1_0 d = mst m c := by
  unfold Pipeline.Dat.before; rw [if_pos (by decide)]; rfl
theorem before1_1 (c : Dev nD) (d : (cfg1.win 1).block.Idx → Elt F (cfg1.win 1).elt) : (dat1 m c).before 1 t1_0 d = sst m c := by
  unfold Pipeline.Dat.before; rw [if_pos (by decide)]; rfl

section Owes
variable {cfg : Pipeline.Cfg sig Λ₀} {c : Dev nD} (dat : Dat τ (Elt F) ℕ ℕ UU ℕ cfg c) (t : Fin (cfg.N + 1))
theorem owes_in {O : CellTallies nD τ sig ℕ} (h : dat.owed t = O) (hr : dat.recorded t = Set.univ) :
    iprop(∃ W, owes (c : Thread nD τ) O W) ⊢ (dat.owesAt 0 t : sProp 𝕄) := by
  unfold Dat.owesAt Pipeline.owesWithin Dat.bound; rw [h, hr]
  iintro ⟨%W, HO⟩
  iexists W
  isplitr
  · ipureintro; exact fun _ _ => Or.inl trivial
  iexact HO
theorem owes_out {O : CellTallies nD τ sig ℕ} (h : dat.owed t = O) :
    (dat.owesAt 0 t : sProp 𝕄) ⊢ iprop(∃ W, owes (c : Thread nD τ) O W) := by
  unfold Dat.owesAt Pipeline.owesWithin; rw [h]
  iintro ⟨%W, -, HO⟩
  iexists W
  iexact HO
end Owes

/-! ## The bodies -/

set_option maxRecDepth 100000 in
/-- The first call's body. -/
theorem body0 (c : Dev nD) : BodyObligation (dat0 (F := F) m c) defs₀ 𝒱₀ 0 Set.univ := fun t => by
  obtain rfl := fin_N0 t
  rw [bigSep_W0, bigSep_W0]
  rw [show (dat0 m c).Φ t0_0.castSucc = iprop((∃ κ, IA (st m) κ ∗ (posA c (.dma sendA) 0 ∗ posA c (.dma recvA) 0) ∗ Start0 c)
      ∗ (∃ r, prngReg c r) ∗ Pipeline.scopedRest spec0 c) from rfl,
    show (dat0 m c).Φ t0_0.succ = iprop(Pipeline.ownSems0 osem0 c ∗ semVal (cl c (.reg barA)) 0 ∗ (∃ r, prngReg c r) ∗ Pipeline.scopedRest spec0 c) from rfl]
  simp only [before0]
  show iprop(_ ∗ _ ∗ (∃ _, owns (c : Thread nD τ) inM fullShare (st m c)) ∗ (∃ d, owns (c : Thread nD τ) outM fullShare _)) ⊢ wpc c (bodyAt0 t0_0) _
  iintro ⟨⟨⟨%κ, #HI, HP, HS⟩, Hr, Hx⟩, HO, ⟨%d0, H0⟩, ⟨%d1, H1⟩⟩
  ihave HO := (owes_out (dat0 m c) t0_0.castSucc (O := due1 c + due0 c) rfl) $$ HO
  iapply (first_ok (c := c) (IA_world (st m) κ) _)
  isplitr; · iexact HI
  isplitl [HP]; · iexact HP
  isplitl [HS]; · iexact HS
  isplitl [H0]; · iapply (Entails.of_eq (owns_eq_rep (c : Thread nD τ) inM fullShare (st m c))) $$ H0
  isplitl [H1]
  · iexists _
    iapply (Entails.of_eq (owns_eq_rep (c : Thread nD τ) outM fullShare _)) $$ H1
  isplitl [HO]; · iexact HO
  iintro ⟨Hs, Hv, H0, H1, HO⟩
  isplitl [Hs Hv Hr Hx]
  · isplitl [Hs]; · iexact Hs
    isplitl [Hv]; · iexact Hv
    isplitl [Hr] <;> iassumption
  isplitl [HO]; · iapply (owes_in (dat0 m c) t0_0.succ (O := due1 c) rfl rfl) $$ HO
  isplitl [H0]
  · iapply (Entails.of_eq (owns_eq_rep (c : Thread nD τ) inM fullShare (st m c)).symm) $$ H0
  iapply (Entails.of_eq (owns_eq_rep (c : Thread nD τ) outM fullShare (st m (peer c))).symm) $$ H1

set_option maxRecDepth 100000 in
/-- The second call's body. -/
theorem body1 (c : Dev nD) : BodyObligation (dat1 (F := F) m c) defs₀ 𝒱₀ 0 Set.univ := fun t => by
  obtain rfl := fin_N1 t
  rw [bigSep_W1, bigSep_W1]
  rw [show (dat1 m c).Φ t1_0.castSucc = iprop((∃ κ ιs, IB (lg m) (Y m) κ ιs ∗ Opened c ∗ Tokens c ∗ Credits c ∗ SlotToks c ∗ Gate c)
        ∗ ptL (lg m) c ∗ ((c : Thread nD τ).loc main_v23 ↦{fullShare} (V3 m (outs1 m) c main_v23)) ∗ (∃ r, prngReg c r) ∗ Pipeline.scopedRest spec1 c) from rfl,
    show (dat1 m c).Φ t1_0.succ = iprop(Pipeline.ownSems0 osem1 c ∗ semVal (cl c (.reg barS)) 0
        ∗ ptL (lg m) c ∗ ((c : Thread nD τ).loc main_v23 ↦{fullShare} OUT m c) ∗ (∃ r, prngReg c r) ∗ Pipeline.scopedRest spec1 c) from rfl]
  simp only [before1_0, before1_1]
  show iprop(_ ∗ _ ∗ (∃ _, owns (c : Thread nD τ) mRef fullShare (mst m c)) ∗ (∃ _, owns (c : Thread nD τ) sRef fullShare (sst m c))) ⊢ wpc c (bodyAt1 t1_0) _
  rw [scopedRest1_eq]
  iintro ⟨⟨⟨%κ, %ιs, #HI, HP, HT, HC, HS, HG⟩, HL, HV, Hr, ⟨X0, X1, X2, X3⟩⟩, HO, ⟨%d0, H0⟩, ⟨%d1, H1⟩⟩
  ihave HO := (owes_out (dat1 m c) t1_0.castSucc (O := due1 c) rfl) $$ HO
  iapply (second_ok (c := c) (mf := mRef.view.rep (mst m c)) (sf := sRef.view.rep (sst m c)) (out := OUT m c) (IB_world (lg m) (Y m) κ ιs)
    (fun k hk => Y_eq m c k hk) (fun k hk => OUT_own m c k hk) (fun k hk => OUT_peer m c k hk) _ _)
  isplitr; · iexact HI
  isplitl [HP]; · iexact HP
  isplitl [HT]; · iexact HT
  isplitl [HC]; · iexact HC
  isplitl [HS]; · iexact HS
  isplitl [HG]; · iexact HG
  isplitl [X2]; · iexact X2
  isplitl [X3]; · iexact X3
  isplitl [HV]; · iexact HV
  isplitl [HL]; · iexact HL
  isplitl [H0 H1]
  · unfold stats
    isplitl [H0]
    · iapply (Entails.of_eq (owns_eq_rep (c : Thread nD τ) mRef fullShare (mst m c))) $$ H0
    iapply (Entails.of_eq (owns_eq_rep (c : Thread nD τ) sRef fullShare (sst m c))) $$ H1
  isplitl [HO]; · iexact HO
  unfold Left stats
  iintro ⟨Hs, Hv, X2, X3, HV, HL, ⟨H0, H1⟩, HO⟩
  isplitl [Hs Hv X0 X1 X2 X3 HV HL Hr]
  · isplitl [Hs]; · iexact Hs
    isplitl [Hv]; · iexact Hv
    isplitl [HL]; · iexact HL
    isplitl [HV]; · iexact HV
    isplitl [Hr]; · iexact Hr
    isplitl [X0]; · iexact X0
    isplitl [X1]; · iexact X1
    isplitl [X2] <;> iassumption
  isplitl [HO]; · iapply (owes_in (dat1 m c) t1_0.succ (O := 0) rfl rfl) $$ HO
  isplitl [H0]
  · iapply (Entails.of_eq (owns_eq_rep (c : Thread nD τ) mRef fullShare (mst m c)).symm) $$ H0
  iapply (Entails.of_eq (owns_eq_rep (c : Thread nD τ) sRef fullShare (sst m c)).symm) $$ H1

end Cert.KernelIdeal.Halves

end
-- ==== Proof.Run.lean ====
module

public import proofs.«01_k».proof.Proof.Body

@[expose] public section

noncomputable section

/-! THE RUN: the two calls in `main`, from the launch to the end. -/

namespace Cert.KernelIdeal.Halves

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ
local notation "ℝ𝕊" m => Pipeline.RegionSeg (pcfgs (F := F)) Gen.adm (pdats m) 0 defs₀ 𝒱₀ (SiteBlocks.L 40) SiteBlocks.lv

variable (m : (ℓ : Loc nD τ sig) → Buf (Elt F) ℓ) (ρ : Dev nD → PrngReg)

/-! ## The first call in `main` -/

theorem kit0 : Pipeline.PLaunchFacts (nD := nD) (τ := τ) (pcfgs (F := F)) 0 where
  cellOf_inj a := by rw [Subsingleton.elim a Gen.adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a Gen.adm]; exact cellOf_inj
  win := winFacts1
  pre := Pipeline.PreFacts.none _
  block_pos := block_pos1
  arr_whole := arr_whole1
  stage_whole := stage_whole1

theorem share0 (c : Dev nD) (w : Fin 2) : (dat0 m c).share w = fullShare := by unfold Dat.share; split <;> rfl
theorem share1 (c : Dev nD) (w : Fin 2) : (dat1 m c).share w = fullShare := by unfold Dat.share; split <;> rfl

/-- What enters the first call's body. -/
def Enter0 (c : Dev nD) : sProp 𝕄 := iprop(∃ κ, IA (st m) κ ∗ (posA c (.dma sendA) 0 ∗ posA c (.dma recvA) 0) ∗ Start0 c)
/-- What enters the second call's. -/
def Enter1 (c : Dev nD) : sProp 𝕄 := iprop(∃ κ ιs, IB (lg m) (Y m) κ ιs ∗ Opened c ∗ Tokens c ∗ Credits c ∗ SlotToks c ∗ Gate c)

theorem enter0 (c : Dev nD) : iprop(Keep0 (st m) c ∗ Pipeline.ownSems0 osem0 c ∗ Levels) ⊢ (|={Set.univ}=> Enter0 m c : sProp 𝕄) := by
  unfold Keep0 Enter0
  iintro ⟨⟨%κ, #HI, Ho, HS⟩, Hv, -⟩
  imod (openA (c := c) (IA_world (st m) κ)) $$ [Ho Hv] with HP
  · isplitr; · iexact HI
    isplitl [Ho] <;> iassumption
  imodintro
  iexists κ
  isplitr; · iexact HI
  isplitl [HP] <;> iassumption

theorem enter1 (c : Dev nD) : iprop(Keep1 (lg m) (Y m) c ∗ Pipeline.ownSems0 osem1 c ∗ Levels) ⊢ (|={Set.univ}=> Enter1 m c : sProp 𝕄) := by
  unfold Keep1 Enter1
  iintro ⟨⟨%κ, %ιs, #HI, Ho, HS⟩, Hv, -⟩
  imod (open_ok (c := c) (IB_world (lg m) (Y m) κ ιs)) $$ [Ho Hv] with HP
  · isplitr; · iexact HI
    isplitl [Ho] <;> iassumption
  imodintro
  iexists κ
  iexists ιs
  isplitr; · iexact HI
  isplitl [HP] <;> iassumption

theorem held_none (c : Dev nD) (W : Valuation τ sig (Elt F)) : (StableHlo.held (c.tc : Thread nD τ) ∅ W : sProp 𝕄) = BI.emp := by
  unfold StableHlo.held; exact BI.bigSep_empty
/-- The two buffers the second call addresses itself. -/
abbrev Hs1 : Finset (DevRef τ sig) := {Proc.devRef .tc main_v1, Proc.devRef .tc main_v23}
theorem held_two (c : Dev nD) (W : Valuation τ sig (Elt F)) : (StableHlo.held (c.tc : Thread nD τ) Hs1 W : sProp 𝕄)
    = iprop(((c : Thread nD τ).loc main_v1 ↦{fullShare} W main_v1) ∗ ((c : Thread nD τ).loc main_v23 ↦{fullShare} W main_v23)) := by
  unfold StableHlo.held
  rw [bigSep_eq_bigSepL_of_eq [Proc.devRef .tc main_v1, Proc.devRef .tc main_v23] (by decide) (by decide)]
  rfl

theorem Vend_ne (c : Dev nD) (r : Ref sig .tc) (h : r ≠ main_v23) : Vend m c r = V3 m (outs1 m) c r :=
  Function.update_of_ne (fun e => h (Proc.devRef_injective (τ := τ) .tc e)) _ _
theorem Vend_v1 (c : Dev nD) : Vend m c main_v1 = lg m c := Function.update_of_ne (by decide) _ _
theorem Vend_v23 (c : Dev nD) : Vend m c main_v23 = OUT m c := Function.update_self _ _ _

theorem in0 (c : Dev nD) : iprop(Pipeline.scopedRest spec0 c ∗ (∃ r, prngReg c r) ∗ StableHlo.held (c.tc : Thread nD τ) ∅ (V1 m c) ∗ Enter0 m c)
    ⊢ (pdats m 0 c).Φ 0 := by
  rw [show (pdats m 0 c).Φ 0 = iprop(Enter0 m c ∗ (∃ r, prngReg c r) ∗ Pipeline.scopedRest spec0 c) from rfl]
  iintro ⟨Hs, Hp, -, HX⟩
  isplitl [HX]; · iexact HX
  isplitl [Hp] <;> iassumption
theorem out0 (c : Dev nD) : (pdats m 0 c).Φ (Fin.last (Pipeline.pin (pcfgs (F := F)) Gen.adm 0).N)
    ⊢ iprop(Pipeline.scopedRest spec0 c ∗ (∃ r, prngReg c r) ∗ StableHlo.held (c.tc : Thread nD τ) ∅ (V2 m (outs1 m) c) ∗ Pipeline.ownSems0 osem0 c
      ∗ semVal (cl c (.reg barA)) 0) := by
  rw [show (pdats m 0 c).Φ (Fin.last _) = iprop(Pipeline.ownSems0 osem0 c ∗ semVal (cl c (.reg barA)) 0 ∗ (∃ r, prngReg c r) ∗ Pipeline.scopedRest spec0 c) from rfl,
    held_none]
  iintro ⟨Ho, Hb, Hp, Hs⟩
  isplitl [Hs]; · iexact Hs
  isplitl [Hp]; · iexact Hp
  isplitr; · iempintro
  isplitl [Ho] <;> iassumption
theorem in1 (c : Dev nD) : iprop(Pipeline.scopedRest spec1 c ∗ (∃ r, prngReg c r) ∗ StableHlo.held (c.tc : Thread nD τ) Hs1 (V3 m (outs1 m) c) ∗ Enter1 m c)
    ⊢ (pdats m 1 c).Φ 0 := by
  rw [show (pdats m 1 c).Φ 0 = iprop(Enter1 m c ∗ ptL (lg m) c ∗ ((c : Thread nD τ).loc main_v23 ↦{fullShare} (V3 m (outs1 m) c main_v23))
    ∗ (∃ r, prngReg c r) ∗ Pipeline.scopedRest spec1 c) from rfl, held_two]
  iintro ⟨Hs, Hp, ⟨H1, H2⟩, HX⟩
  isplitl [HX]; · iexact HX
  isplitl [H1]; · iexact H1
  isplitl [H2]; · iexact H2
  isplitl [Hp] <;> iassumption
theorem out1 (c : Dev nD) : (pdats m 1 c).Φ (Fin.last (Pipeline.pin (pcfgs (F := F)) Gen.adm 1).N)
    ⊢ iprop(Pipeline.scopedRest spec1 c ∗ (∃ r, prngReg c r) ∗ StableHlo.held (c.tc : Thread nD τ) Hs1 (Vend m c) ∗ Pipeline.ownSems0 osem1 c
      ∗ semVal (cl c (.reg barS)) 0) := by
  rw [show (pdats m 1 c).Φ (Fin.last _) = iprop(Pipeline.ownSems0 osem1 c ∗ semVal (cl c (.reg barS)) 0
        ∗ ptL (lg m) c ∗ ((c : Thread nD τ).loc main_v23 ↦{fullShare} OUT m c) ∗ (∃ r, prngReg c r) ∗ Pipeline.scopedRest spec1 c) from rfl,
    held_two, Vend_v1, Vend_v23]
  iintro ⟨Ho, Hb, HL, HV, Hp, Hs⟩
  isplitl [Hs]; · iexact Hs
  isplitl [Hp]; · iexact Hp
  isplitl [HL HV]; · isplitl [HL] <;> iassumption
  isplitl [Ho] <;> iassumption

theorem level_in {g : GSem nD τ sig} {i : ℕ} (h : g.1.2 = .tc) (hi : i < 40) : i ∈ SiteBlocks.L 40 g := SiteBlocks.mem_L' h hi

theorem due0_at {c : Dev nD} {g : GSem nD τ sig} {i : ℕ} (h : 0 < due0 c g i) : g.1.2 = .tc ∧ i < 40 ∧ 1 ≤ i := by
  unfold due0 dueCopy at h
  simp only [Pi.add_apply, Finsupp.add_apply] at h
  rcases Nat.add_pos_iff_pos_or_pos.mp h with h | h
  · obtain ⟨rfl, rfl⟩ := Pipeline.tallyAt_pos h; exact ⟨rfl, by decide, by decide⟩
  · obtain ⟨rfl, rfl⟩ := Pipeline.tallyAt_pos h; exact ⟨rfl, by decide, by decide⟩

theorem cut0 : Pipeline.LevelCutOwed (pcfgs (F := F)) Gen.adm (pdats m) 0 (SiteBlocks.L 40) SiteBlocks.lv 0 fun _ => 0 where
  hι c w s := level_in rfl (by decide)
  hιb c w s := le_refl _
  hD c t g i h := by
    have h' : 0 < due1 c g i ∨ 0 < due0 c g i := by
      rcases t with ⟨_ | n, ht⟩
      · have h : 0 < (due1 c + due0 c) g i := h
        rw [Pi.add_apply, Finsupp.add_apply] at h; exact Nat.add_pos_iff_pos_or_pos.mp h
      · exact .inl h
    rcases h' with h | h
    · have := due1_pos h; exact ⟨level_in this.1 this.2.1, show 0 < i by omega⟩
    · have := due0_at h; exact ⟨level_in this.1 this.2.1, show 0 < i by omega⟩
theorem cut1 : Pipeline.LevelCutOwed (pcfgs (F := F)) Gen.adm (pdats m) 0 (SiteBlocks.L 40) SiteBlocks.lv 1 fun _ => 0 where
  hι c w s := level_in rfl (by decide)
  hιb c w s := le_refl _
  hD c t g i h := by
    rcases t with ⟨_ | n, ht⟩
    · have := due1_pos h; exact ⟨level_in this.1 this.2.1, show 0 < i by omega⟩
    · exact absurd h (Nat.lt_irrefl 0)

/-- What the arrays of the first call hold before it and after it. -/
theorem arrs0 (c : Dev nD) (w : Fin 2) : (dat0 m c).arrAt w 0 = V1 m c (Proc.devRef .tc (Pipeline.arrRef spec0 w)) := rfl
theorem arrs0' (c : Dev nD) (w : Fin 2) : (dat0 m c).arrAt w cfg0.N = V2 m (outs1 m) c (Proc.devRef .tc (Pipeline.arrRef spec0 w)) := by
  fin_cases w
  · exact ((dat0 m c).arrAt_in 0 rfl _).trans (V2_of m (outs1 m) c main_v9 (by decide)).symm
  · refine ((dat0 m c).arrAt_eq_of_after_last 1 t0_0 (by decide +kernel) (mid m c) fun j => ?_).trans (V2_v10 m c).symm
    rfl
theorem arrs1 (c : Dev nD) (w : Fin 2) : (dat1 m c).arrAt w 0 = V3 m (outs1 m) c (Proc.devRef .tc (Pipeline.arrRef spec1 w)) := rfl
theorem arrs1' (c : Dev nD) (w : Fin 2) : (dat1 m c).arrAt w cfg1.N = Vend m c (Proc.devRef .tc (Pipeline.arrRef spec1 w)) := by
  fin_cases w
  · exact ((dat1 m c).arrAt_in 0 rfl _).trans (Vend_ne m c main_v13 (by decide)).symm
  · exact ((dat1 m c).arrAt_in 1 rfl _).trans (Vend_ne m c main_v22 (by decide)).symm

/-- The unscoped buffers that are no window's array. -/
abbrev rest0 : Finset (DevRef τ sig) := Pipeline.ucRefs τ sig \ Pipeline.arrRefs (τ := τ) spec0
abbrev rest1 : Finset (DevRef τ sig) := Pipeline.ucRefs τ sig \ Pipeline.arrRefs (τ := τ) spec1

set_option backward.isDefEq.respectTransparency.types false in
/-- The first call's region. -/
def reg0 : Pipeline.RegionSeg (pcfgs (F := F)) Gen.adm (pdats m) 0 defs₀ 𝒱₀ (SiteBlocks.L 40) SiteBlocks.lv 0 :=
  Pipeline.RegionSeg.ofTalk (pcfgs (F := F)) Gen.adm (pdats m) 0 defs₀ 𝒱₀ (SiteBlocks.L 40) SiteBlocks.lv 0 osem0 (by decide : Pipeline.OwnSemFacts spec0 osem0)
    ∅ rest0 (Finset.empty_subset _) kit0 rfl (fun c => (body0 m c).loose)
    due1 due0 (fun _ => rfl) (fun _ => rfl) (fun _ => rfl) (share0 m)
    (V1 m) (V2 m (outs1 m)) (fun c b hb => Function.update_of_ne (fun e => by
      subst e
      exact absurd (Finset.mem_sdiff.mp hb).1 (by decide)) _ _)
    (Keep0 (st m)) (fun c => semVal (cl c (.reg barA)) 0) (Enter0 m) (fun c => semVal (cl c (.reg barA)) 0) (enter0 m) (in0 m) (out0 m)
    (fun c => by iintro H; imodintro; iexact H)
    (fun _ => 0) (cut0 m) (Keep1 (lg m) (Y m)) (arrs0 m) (arrs0' m)

set_option backward.isDefEq.respectTransparency.types false in
/-- The second call's region. -/
def reg1 : Pipeline.RegionSeg (pcfgs (F := F)) Gen.adm (pdats m) 0 defs₀ 𝒱₀ (SiteBlocks.L 40) SiteBlocks.lv 1 :=
  Pipeline.RegionSeg.ofTalk (pcfgs (F := F)) Gen.adm (pdats m) 0 defs₀ 𝒱₀ (SiteBlocks.L 40) SiteBlocks.lv 1 osem1 (by decide : Pipeline.OwnSemFacts spec1 osem1)
    Hs1 rest1 (by decide) kit1 rfl (fun c => (body1 m c).loose)
    (fun _ => 0) due1 (fun _ => (zero_add _).symm) (fun _ => rfl) (fun _ => rfl) (share1 m)
    (V3 m (outs1 m)) (Vend m) (fun c b hb => Function.update_of_ne (fun e => by
      subst e
      exact absurd (Finset.mem_sdiff.mp hb).2 (by decide)) _ _)
    (Keep1 (lg m) (Y m)) (fun c => semVal (cl c (.reg barS)) 0) (Enter1 m) (fun c => semVal (cl c (.reg barS)) 0) (enter1 m) (in1 m) (out1 m)
    (fun c => by iintro H; imodintro; iexact H)
    (fun _ => 0) (cut1 m) (fun c => semVal (cl c (.reg barA)) 0) (arrs1 m) (arrs1' m)

/-! ## The run -/

def keep0 (c : Dev nD) : sProp 𝕄 := iprop((∃ r, prngReg c r) ∗ (Keep0 (st m) c ∗ Keep1 (lg m) (Y m) c) ∗ ∃ W, owes (c : Thread nD τ) (due c) W)
def keep1 (c : Dev nD) : sProp 𝕄 := iprop((∃ r, prngReg c r) ∗ (semVal (cl c (.reg barA)) 0 ∗ Keep1 (lg m) (Y m) c) ∗ ∃ W, owes (c : Thread nD τ) (due1 c) W)
/-- What rides beside the buffers: before the first call, before the second, at the end. -/
def beside : Fin 3 → Dev nD → sProp 𝕄
  | 0 => keep0 m
  | 1 => keep1 m
  | 2 => fun _ => iprop(emp)

abbrev begins (c : Dev nD) : sProp 𝕄 := iprop(StableHlo.held (c : Thread nD τ) (Pipeline.ucRefs τ sig) (V0 m c) ∗ keep0 m c)
abbrev ends (c : Dev nD) : sProp 𝕄 :=
  iprop(StableHlo.held (c : Thread nD τ) (Pipeline.ucRefs τ sig) (Vend m c) ∗ semVal (cl c (.reg barA)) 0 ∗ semVal (cl c (.reg barS)) 0)

abbrev steps : List (Pipeline.Seg (pcfgs (F := F)) Gen.adm (pdats m) 0 defs₀ 𝒱₀ (SiteBlocks.L 40) SiteBlocks.lv) :=
  [.host (seg0 m 𝒱₀ (SiteBlocks.L 40) SiteBlocks.lv (beside m)), .region (reg0 m),
    .host (seg2 m (outs1 m) 𝒱₀ (SiteBlocks.L 40) SiteBlocks.lv (beside m)), .region (reg1 m)]

theorem take0 (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) rest0 V) :=
  StableHlo.held_sub_split (c : Thread nD τ) (by decide) V
theorem take1 (c : Dev nD) (V : Valuation τ sig (Elt F)) : (StableHlo.held (c : Thread nD τ) (Pipeline.ucRefs τ sig) V : sProp 𝕄)
    = iprop(StableHlo.held (c : Thread nD τ) (Pipeline.arrRefs (τ := τ) spec1) V ∗ StableHlo.held (c : Thread nD τ) rest1 V) :=
  StableHlo.held_sub_split (c : Thread nD τ) (by decide) V

theorem pre0 (c : Dev nD) : iprop(StableHlo.held (c : Thread nD τ) (Pipeline.ucRefs τ sig) (V1 m c) ∗ keep0 m c) ⊢ (reg0 m).pre c := by
  show _ ⊢ iprop(StableHlo.held (c : Thread nD τ) (Pipeline.arrRefs (τ := τ) spec0) (V1 m c) ∗ (∃ r, prngReg c r)
    ∗ (StableHlo.held (c : Thread nD τ) rest0 (V1 m c) ∗ Keep1 (lg m) (Y m) c) ∗ Keep0 (st m) c ∗ ∃ Wd, owes (c : Thread nD τ) (due c) Wd)
  unfold keep0
  rw [take0]
  iintro ⟨⟨Ha, Hr⟩, Hp, ⟨H0, H1⟩, HO⟩
  isplitl [Ha]; · iexact Ha
  isplitl [Hp]; · iexact Hp
  isplitl [Hr H1]; · isplitl [Hr] <;> iassumption
  isplitl [H0] <;> iassumption
theorem post0 (c : Dev nD) : (reg0 m).post c ⊢ iprop(StableHlo.held (c : Thread nD τ) (Pipeline.ucRefs τ sig) (V2 m (outs1 m) c) ∗ keep1 m c) := by
  show iprop(StableHlo.held (c : Thread nD τ) (Pipeline.arrRefs (τ := τ) spec0) (V2 m (outs1 m) c) ∗ (∃ r, prngReg c r)
    ∗ (StableHlo.held (c : Thread nD τ) rest0 (V2 m (outs1 m) c) ∗ Keep1 (lg m) (Y m) c) ∗ semVal (cl c (.reg barA)) 0
    ∗ ∃ Wd, owes (c : Thread nD τ) (due1 c) Wd) ⊢ _
  unfold keep1
  rw [take0]
  iintro ⟨Ha, Hp, ⟨Hr, H1⟩, Hb, HO⟩
  isplitl [Ha Hr]; · isplitl [Ha] <;> iassumption
  isplitl [Hp]; · iexact Hp
  isplitl [Hb H1]; · isplitl [Hb] <;> iassumption
  iexact HO
theorem pre1 (c : Dev nD) : iprop(StableHlo.held (c : Thread nD τ) (Pipeline.ucRefs τ sig) (V3 m (outs1 m) c) ∗ keep1 m c) ⊢ (reg1 m).pre c := by
  show _ ⊢ iprop(StableHlo.held (c : Thread nD τ) (Pipeline.arrRefs (τ := τ) spec1) (V3 m (outs1 m) c) ∗ (∃ r, prngReg c r)
    ∗ (StableHlo.held (c : Thread nD τ) rest1 (V3 m (outs1 m) c) ∗ semVal (cl c (.reg barA)) 0) ∗ Keep1 (lg m) (Y m) c
    ∗ ∃ Wd, owes (c : Thread nD τ) (0 + due1 c) Wd)
  unfold keep1
  rw [take1, zero_add]
  iintro ⟨⟨Ha, Hr⟩, Hp, ⟨H0, H1⟩, HO⟩
  isplitl [Ha]; · iexact Ha
  isplitl [Hp]; · iexact Hp
  isplitl [Hr H0]; · isplitl [Hr] <;> iassumption
  isplitl [H1] <;> iassumption
theorem post1 (c : Dev nD) : (reg1 m).post c ⊢ iprop(ends m c ∗ ∃ W, owes (c : Thread nD τ) (0 : CellTallies nD τ sig ℕ) W) := by
  show iprop(StableHlo.held (c : Thread nD τ) (Pipeline.arrRefs (τ := τ) spec1) (Vend m c) ∗ (∃ r, prngReg c r)
    ∗ (StableHlo.held (c : Thread nD τ) rest1 (Vend m c) ∗ semVal (cl c (.reg barA)) 0) ∗ semVal (cl c (.reg barS)) 0
    ∗ ∃ Wd, owes (c : Thread nD τ) (0 : CellTallies nD τ sig ℕ) Wd) ⊢ _
  unfold ends
  rw [take1]
  iintro ⟨Ha, Hp, ⟨Hr, H1⟩, Hb, HO⟩
  isplitr [HO]
  · isplitl [Ha Hr]; · isplitl [Ha] <;> iassumption
    isplitl [H1] <;> iassumption
  iexact HO

theorem unscopedSems0_eq (c : Dev nD) : (unscopedSems0 c : sProp 𝕄) = iprop(semVal (cl c (.reg barA)) 0 ∗ semVal (cl c (.reg barS)) 0) := by
  unfold unscopedSems0
  rw [bigSep_eq_bigSepL_of_eq [SemLoc.reg barA, SemLoc.reg barS] (by decide) (by decide)]
  rfl
theorem unscoped_eq : ∀ sm : SemLoc sig, sm.isScoped .tc = false → sm = .reg barA ∨ sm = .reg barS := by decide

/-- The calls' launch element, held on one device's behalf. -/
abbrev G : Dev nD → sProp 𝕄 := SiteBlocks.onDev 0 (BI.own (EC launchG))

theorem init :
    iprop((bigSep Finset.univ fun c : Dev nD => iprop(unscopedBufs c (fun b => m ((c.tc : Thread nD τ).loc b)) ∗ unscopedSems0 c
          ∗ owes (c.tc : Thread nD τ) (due c) ∅ ∗ Pipeline.launchCred due c ∗ prngReg c (ρ c) ∗ G c)) ∗ Levels)
      ⊢ (|={Set.univ}=> bigSep Finset.univ (begins m) : sProp 𝕄) := by
  have hcore (c : Dev nD) : iprop(unscopedBufs c (fun b => m ((c.tc : Thread nD τ).loc b)) ∗ unscopedSems0 c
        ∗ owes (c.tc : Thread nD τ) (due c) ∅ ∗ Pipeline.launchCred due c ∗ prngReg c (ρ c) ∗ G c)
      ⊢ (iprop((StableHlo.held (c : Thread nD τ) (Pipeline.ucRefs τ sig) (V0 m c) ∗ (∃ r, prngReg c r) ∗ ∃ W, owes (c : Thread nD τ) (due c) W)
        ∗ ((semVal (cl c (.reg barA)) 0 ∗ semVal (cl c (.reg barS)) 0) ∗ Pipeline.launchCred due c) ∗ G c) : sProp 𝕄) := by
    rw [show unscopedBufs c (fun b => m ((c.tc : Thread nD τ).loc b)) = StableHlo.held (c : Thread nD τ) (Pipeline.ucRefs τ sig) (V0 m c) from
      Pipeline.unscopedBufs_held c (V0 m c), unscopedSems0_eq]
    iintro ⟨Hh, Hus, HO, Hcr, Hp, HG⟩
    isplitl [Hh HO Hp]
    · isplitl [Hh]; · iexact Hh
      isplitl [Hp]; · iexists (ρ c); iexact Hp
      iexists ∅; iexact HO
    isplitr [HG]
    · isplitl [Hus] <;> iassumption
    iexact HG
  have hback (c : Dev nD) : iprop((StableHlo.held (c : Thread nD τ) (Pipeline.ucRefs τ sig) (V0 m c) ∗ (∃ r, prngReg c r) ∗ ∃ W, owes (c : Thread nD τ) (due c) W)
      ∗ (Keep0 (st m) c ∗ Keep1 (lg m) (Y m) c)) ⊢ (begins m c : sProp 𝕄) := by
    unfold begins keep0
    iintro ⟨⟨Hh, Hp, HO⟩, HK⟩
    isplitl [Hh]; · iexact Hh
    isplitl [Hp]; · iexact Hp
    isplitl [HK] <;> iassumption
  iintro ⟨H, HL⟩
  ihave H' := (show (bigSep Finset.univ fun c : Dev nD => iprop(unscopedBufs c (fun b => m ((c.tc : Thread nD τ).loc b)) ∗ unscopedSems0 c
          ∗ owes (c.tc : Thread nD τ) (due c) ∅ ∗ Pipeline.launchCred due c ∗ prngReg c (ρ c) ∗ G c))
      ⊢ (bigSep Finset.univ fun c : Dev nD => iprop((StableHlo.held (c : Thread nD τ) (Pipeline.ucRefs τ sig) (V0 m c) ∗ (∃ r, prngReg c r) ∗ ∃ W, owes (c : Thread nD τ) (due c) W)
        ∗ ((semVal (cl c (.reg barA)) 0 ∗ semVal (cl c (.reg barS)) 0) ∗ Pipeline.launchCred due c) ∗ G c) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (EC launchG) from Entails.of_eq (SiteBlocks.bigSep_onDev 0 (BI.own (EC launchG)))) $$ HG
  imod (deal (st m) (lg m) (Y m)) $$ [Hv Hu HL] with HK
  · isplitl [Hv]; · iexact Hv
    isplitl [Hu] <;> iassumption
  imodintro
  ihave H5 := (Entails.of_eq (bigSep_sep' _ _ _).symm) $$ [HB HK]
  · isplitl [HB]; · iexact HB
    iexact HK
  iapply (show (bigSep Finset.univ fun c : Dev nD => iprop((StableHlo.held (c : Thread nD τ) (Pipeline.ucRefs τ sig) (V0 m c) ∗ (∃ r, prngReg c r) ∗ ∃ W, owes (c : Thread nD τ) (due c) W)
      ∗ (Keep0 (st m) c ∗ Keep1 (lg m) (Y m) c))) ⊢ (bigSep Finset.univ (begins m) : sProp 𝕄) from bigSep_mono fun c _ => hback c) $$ H5

theorem Vend_arg0 (c : Dev nD) : Vend m c main_arg0 = m ((c : Thread nD τ).loc main_arg0) :=
  (Vend_ne m c _ (by decide)).trans ((V3_of m (outs1 m) c _ (by decide)).trans ((V2_of m (outs1 m) c _ (by decide)).trans (V1_of m c _ (by decide))))
theorem Vend_arg1 (c : Dev nD) : Vend m c main_arg1 = m ((c : Thread nD τ).loc main_arg1) :=
  (Vend_ne m c _ (by decide)).trans ((V3_of m (outs1 m) c _ (by decide)).trans ((V2_of m (outs1 m) c _ (by decide)).trans (V1_of m c _ (by decide))))

set_option backward.isDefEq.respectTransparency.types false in
/-- THE RUN: from any memory with zero counters every weakly fair execution of `main` on the four devices ends, and at the end
    each device's arguments are as they were, its result holds `OUT`, and every semaphore counter reads zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v23) = OUT m c) ∧ r.2.sem = fun _ => 0) :=
  Pipeline.θ_run_regions_kit_sems (pcfgs (F := F)) Gen.adm (pdats m) 0 cellOf_inj EP defs₀ 𝒱₀ (SiteBlocks.L 40) SiteBlocks.lv m ρ main (steps m)
    (fun c Q => by rw [Gen.main_segs (F := F) Gen.adm (pdats m) 0 𝒱₀ (SiteBlocks.L 40) SiteBlocks.lv (seg0 m 𝒱₀ (SiteBlocks.L 40) SiteBlocks.lv (beside m))
      (seg2 m (outs1 m) 𝒱₀ (SiteBlocks.L 40) SiteBlocks.lv (beside m)) (reg0 m) (reg1 m) rfl rfl c])
    (by simp only [steps, Pipeline.Seg.pipes_host, Pipeline.Seg.pipes_region, Pipeline.Seg.pipes_nil]; decide)
    (O₀ := due) (hL := fun g h => by unfold SiteBlocks.L; rw [if_neg h]) (G := G)
    (u₀ := (initOf (Pipeline.cells (Pipeline.pin (pcfgs (F := F)) Gen.adm) cellOf_inj) (Pipeline.launchToks (Pipeline.pin (pcfgs (F := F)) Gen.adm) cellOf_inj), launchG))
    (hu₀ := by
      iintro Hu
      ihave H := (ownU_pair _ _) $$ Hu
      icases H with ⟨HP, HX⟩
      imodintro
      isplitl [HP]; · iexact HP
      rw [SiteBlocks.bigSep_onDev]; iexact HX)
    (T₀ := begins m) (Tₙ := ends m)
    (hch := ⟨fun c => .rfl, fun c => pre0 m c, fun c => post0 m c, fun c => pre1 m c, fun c => post1 m c⟩)
    (hinit := init m ρ)
    (QY := fun c s => (∀ b ∈ Pipeline.ucRefs τ sig, s.mem (((c : Thread nD τ).1, b) : Loc nD τ sig) = Vend m c b)
      ∧ s.sem (cl c (.reg barA)) = 0 ∧ s.sem (cl c (.reg barS)) = 0)
    (hfin := fun c s' => by
      dsimp only [ends]; unfold StableHlo.held
      iintro ⟨⟨Hh, Ha, Hb⟩, HSI⟩
      icombine HSI Ha gives %ha
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨h, by simpa using ha, by simpa using hb⟩
      iexact HSI)
    (hQ := fun s h hs => ⟨fun c => by
        have H (r : Ref sig .tc) (hr : (Proc.devRef .tc r : DevRef τ sig).isScoped = false) :=
          (h c).1 (Proc.devRef .tc r) (Finset.mem_filter.mpr ⟨StableHlo.devRef_mem_tcRefs r, fun h' => Bool.false_ne_true (hr.symm.trans h')⟩)
        exact ⟨(H main_arg0 rfl).trans (Vend_arg0 m c), (H main_arg1 rfl).trans (Vend_arg1 m c), (H main_v23 rfl).trans (Vend_v23 m c)⟩,
      sem_eq_zero hs fun c sm hsm => by
        rcases unscoped_eq sm hsm with rfl | rfl
        · exact (h c).2.1
        · exact (h c).2.2⟩)

end Cert.KernelIdeal.Halves

end
-- ==== Proof.Maths.lean ====
module

public import Idealize.ShloMosaic.PureOps.Ideal
public import Idealize.ShloMosaic.Lib.IdealHost

@[expose] public section

noncomputable section

/-! The softmax of a row cut in two: each half gives its greatest entry and the sum of its exponentials under that, and
    the two pairs merge to what the whole row gives. All entries are real numbers. -/

namespace Cert.KernelIdeal.Halves

open Idealize.ShloMosaic

/-- The greatest entry of a row. -/
def top {n : ℕ} (f : Fin n → EReal) : EReal := Finset.univ.fold max ⊥ f
/-- The sum of a row's exponentials under a bound. -/
def massAt {n : ℕ} (f : Fin n → EReal) (b : EReal) : EReal := ∑ l, Ideal.exp (f l - b)

/-- A sum of real numbers. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers is a real number. -/
theorem dot_real {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [← coe_sum]
  exact Finset.sum_congr rfl fun k _ => by rw [ha, hb, EReal.coe_mul]

theorem top_real {n : ℕ} [NeZero n] (f : Fin n → ℝ) : ∃ a : ℝ, top (fun l => (f l : EReal)) = a := by
  obtain ⟨i, _, hi⟩ := Finset.exists_mem_eq_sup (Finset.univ : Finset (Fin n)) ⟨0, Finset.mem_univ _⟩ (fun l => (f l : EReal))
  exact ⟨f i, hi⟩

theorem top_halves {n : ℕ} (f : Fin (n + n) → EReal) :
    top f = max (top fun l => f (Fin.castAdd n l)) (top fun l => f (Fin.natAdd n l)) := by
  apply le_antisymm
  · refine Finset.sup_le (f := f) fun i _ => ?_
    refine Fin.addCases (fun l => ?_) (fun l => ?_) i
    · exact le_max_of_le_left (Finset.le_sup (f := fun l => f (Fin.castAdd n l)) (Finset.mem_univ l))
    · exact le_max_of_le_right (Finset.le_sup (f := fun l => f (Fin.natAdd n l)) (Finset.mem_univ l))
  · refine max_le (Finset.sup_le (f := fun l => f (Fin.castAdd n l)) fun i _ => ?_) (Finset.sup_le (f := fun l => f (Fin.natAdd n l)) fun i _ => ?_)
    · exact Finset.le_sup (f := f) (Finset.mem_univ _)
    · exact Finset.le_sup (f := f) (Finset.mem_univ _)

theorem massAt_halves {n : ℕ} (f : Fin (n + n) → EReal) (b : EReal) :
    massAt f b = massAt (fun l => f (Fin.castAdd n l)) b + massAt (fun l => f (Fin.natAdd n l)) b :=
  Fin.sum_univ_add _

theorem massAt_real {n : ℕ} (f : Fin n → ℝ) (b : ℝ) : massAt (fun l => (f l : EReal)) (b : EReal) = ((∑ l, Real.exp (f l - b) : ℝ) : EReal) := by
  rw [← coe_sum]
  exact Finset.sum_congr rfl fun l _ => by rw [← EReal.coe_sub]; rfl

/-- Moving the bound of a half's sum. -/
theorem move_bound {n : ℕ} (f : Fin n → ℝ) (a b : ℝ) :
    Ideal.exp ((a : EReal) - b) * massAt (fun l => (f l : EReal)) (a : EReal) = massAt (fun l => (f l : EReal)) (b : EReal) := by
  rw [massAt_real, massAt_real, ← EReal.coe_sub]
  show ((Real.exp (a - b) : ℝ) : EReal) * _ = _
  rw [← EReal.coe_mul, Finset.mul_sum]
  congr 1
  refine Finset.sum_congr rfl fun l _ => ?_
  rw [← Real.exp_add]
  congr 1
  ring

theorem massAt_pos {n : ℕ} [NeZero n] (f : Fin n → ℝ) (b : ℝ) : 0 < ∑ l, Real.exp (f l - b) :=
  Finset.sum_pos (fun _ _ => Real.exp_pos _) ⟨0, Finset.mem_univ _⟩

/-- The merged bound of two halves and one over their merged sum. -/
def bound {n : ℕ} (f g : Fin n → EReal) : EReal := max (top f) (top g)
def inverse {n : ℕ} (f g : Fin n → EReal) : EReal :=
  Ideal.div 1 (Ideal.exp (top f - bound f g) * massAt f (top f) + Ideal.exp (top g - bound f g) * massAt g (top g))

/-- What the two halves' statistics give for an entry. -/
theorem merge {n : ℕ} [NeZero n] (f g : Fin n → ℝ) (x : EReal) :
    Ideal.exp (x - bound (fun l => (f l : EReal)) (fun l => (g l : EReal))) * inverse (fun l => (f l : EReal)) (fun l => (g l : EReal))
      = Ideal.div (Ideal.exp (x - bound (fun l => (f l : EReal)) (fun l => (g l : EReal))))
          (massAt (fun l => (f l : EReal)) (bound (fun l => (f l : EReal)) (fun l => (g l : EReal)))
            + massAt (fun l => (g l : EReal)) (bound (fun l => (f l : EReal)) (fun l => (g l : EReal)))) := by
  obtain ⟨a, ha⟩ := top_real f
  obtain ⟨b, hb⟩ := top_real g
  unfold inverse bound
  rw [ha, hb]
  obtain ⟨μ, hμ⟩ : ∃ μ : ℝ, max (a : EReal) b = μ := ⟨max a b, by rcases le_total a b with h | h <;> simp [h]⟩
  rw [hμ, move_bound, move_bound]
  apply Ideal.mul_one_div
  rw [massAt_real, massAt_real, ← EReal.coe_add]
  have h := add_pos (massAt_pos f μ) (massAt_pos g μ)
  exact fun h0 => h.ne' (EReal.coe_eq_zero.mp h0)

/-- The same from the halves of a row, whichever of the two comes first. -/
theorem row_of_halves {n : ℕ} [NeZero n] (F : Fin (n + n) → EReal) (hF : ∀ j, ∃ r : ℝ, F j = r) (f g : Fin n → EReal)
    (hfg : ((f = fun l => F (Fin.castAdd n l)) ∧ g = fun l => F (Fin.natAdd n l))
      ∨ ((f = fun l => F (Fin.natAdd n l)) ∧ g = fun l => F (Fin.castAdd n l))) (x : EReal) :
    Ideal.exp (x - bound f g) * inverse f g = Ideal.div (Ideal.exp (x - top F)) (massAt F (top F)) := by
  choose R hR using hF
  obtain rfl : F = fun j => (R j : EReal) := funext hR
  rcases hfg with ⟨rfl, rfl⟩ | ⟨rfl, rfl⟩
  · rw [merge (fun l => R (Fin.castAdd n l)) (fun l => R (Fin.natAdd n l)), massAt_halves, top_halves]
    rfl
  · rw [merge (fun l => R (Fin.natAdd n l)) (fun l => R (Fin.castAdd n l)), massAt_halves, top_halves, max_comm, add_comm]
    rfl

end Cert.KernelIdeal.Halves

end
-- ==== Proof.Pure.lean ====
module

public import proofs.«01_k».proof.Proof.Fill
public import proofs.«01_k».proof.Proof.Maths
public import Idealize.ShloMosaic.Lib.Pointwise

@[expose] public section

noncomputable section

/-! The kernel's host operations over the ideal numbers, read at an index. -/

namespace Cert.KernelIdeal.Halves

open Idealize.ShloMosaic Idealize.ShloMosaic.TcCoe
open Cert.KernelIdeal.Gen

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-! ## The operations at an index -/

/-- The rows' greatest entries. -/
theorem top_pure (L : FVec Ideal S1024x16384 .f32) (r : Fin 1024) (l : Fin 1) :
    broadcastInDim S1024x1 ![0] bcast_S1024_S1024x1_0 (Host.reduce FloatOps.maximumf L (constant S_ .f32 0xFF800000#32) reducesTo_S1024x16384_S1024_d1 h_S_) (ix2 r l)
      = top fun l => L (ix2 r l) := by
  unfold top
  pointwise
  rw [ofBits_bot]

/-- The rows' sums. -/
theorem mass_pure (L : FVec Ideal S1024x16384 .f32) (T : FVec Ideal S1024x1 .f32) (r : Fin 1024) (l : Fin 1) :
    broadcastInDim S1024x1 ![0] bcast_S1024_S1024x1_0
      (Host.reduceAdd (Host.exp (subf L (broadcastInDim S1024x16384 ![0, 1] bcast_S1024x1_S1024x16384_0_1 T))) (constant S_ .f32 0x00000000#32) reducesTo_S1024x16384_S1024_d1 h_S_) (ix2 r l)
      = massAt (fun l => L (ix2 r l)) (T (ix2 r 0)) := by
  unfold massAt
  pointwise

/-- Two columns side by side. -/
theorem pair_pure (a b : FVec Ideal S1024x1 .f32) (r : Fin 1024) :
    concatenate S1024x2 1 [⟨S1024x1, a⟩, ⟨S1024x1, b⟩] concatenates_S1024x1_S1024x1_S1024x2_d1 (ix2 r 0) = a (ix2 r 0)
      ∧ concatenate S1024x2 1 [⟨S1024x1, a⟩, ⟨S1024x1, b⟩] concatenates_S1024x1_S1024x1_S1024x2_d1 (ix2 r 1) = b (ix2 r 0) := by
  constructor <;> pointwise

/-- The columns apart again. -/
theorem col0_pure (p : FVec Ideal S1024x2 .f32) (r : Fin 1024) (l : Fin 1) :
    extractStridedSlice S1024x1 ![0, 0] p slices_S1024x2_S1024x1_0_0 (ix2 r l) = p (ix2 r 0) := by
  obtain rfl := Subsingleton.elim l 0
  pointwise
theorem col1_pure (p : FVec Ideal S1024x2 .f32) (r : Fin 1024) (l : Fin 1) :
    extractStridedSlice S1024x1 ![0, 1] p slices_S1024x2_S1024x1_0_1 (ix2 r l) = p (ix2 r 1) := by
  obtain rfl := Subsingleton.elim l 0
  pointwise

theorem bound_pure (a b : FVec Ideal S1024x1 .f32) (r : Fin 1024) (l : Fin 1) : maximumf a b (ix2 r l) = max (a (ix2 r l)) (b (ix2 r l)) := by
  pointwise

/-- One over the merged sum. -/
theorem inverse_pure (t s t' s' b : FVec Ideal S1024x1 .f32) (r : Fin 1024) (l : Fin 1) :
    Host.divf (broadcastInDim S1024x1 ![] bcast_S_S1024x1 (constant S_ .f32 0x3F800000#32))
        (addf (mulf (Host.exp (subf t b)) s) (mulf (Host.exp (subf t' b)) s')) (ix2 r l)
      = Ideal.div 1 (Ideal.exp (t (ix2 r l) - b (ix2 r l)) * s (ix2 r l) + Ideal.exp (t' (ix2 r l) - b (ix2 r l)) * s' (ix2 r l)) := by
  pointwise

/-- A chunk's entries. -/
theorem scaled_at (mm ss : Vec Ideal S64x1 .f32) (x : FVec Ideal S64x16384 .f32) (r : Fin 64) (l : Fin 16384) :
    scaled mm ss x (ix2 r l) = Ideal.exp (x (ix2 r l) - mm (ix2 r 0)) * ss (ix2 r 0) := by
  unfold scaled
  pointwise

/-- The logits. -/
theorem dot_pure (x : FVec Ideal S1024x2048 .f32) (w : FVec Ideal S2048x16384 .f32) (r : Fin 1024) (l : Fin 16384) :
    Host.dotGeneral dot_S1024x2048_S2048x16384_S1024x16384_1_0_0_1_n_n none x w (ix2 r l) = ∑ k : Fin 2048, x (ix2 r k) * w (ix2 k l) := by
  pointwise

end Cert.KernelIdeal.Halves

end
-- ==== Proof.Values.lean ====
module

public import proofs.«01_k».proof.Proof.Body
public import proofs.«01_k».proof.Proof.Pure
public import Idealize.ShloMosaic.Lib.VecWindow

@[expose] public section

noncomputable section

/-! What the kernel's buffers hold over the ideal numbers, read at an index. -/

namespace Cert.KernelIdeal.Halves

open Idealize.ShloMosaic Idealize.ShloMosaic.TcCoe
open Cert.KernelIdeal.Gen

variable (m : (ℓ : Loc nD τ sig) → Buf (Elt Ideal) ℓ)

/-- Device `c`'s inputs. -/
def xin (c : Dev nD) : FVec Ideal S1024x2048 .f32 := m ((c : Thread nD τ).loc main_arg0)
def win (c : Dev nD) : FVec Ideal S2048x16384 .f32 := m ((c : Thread nD τ).loc main_arg1)
/-- Row `r` of device `c`'s logits. -/
def row (c : Dev nD) (r : Fin 1024) : Fin 16384 → EReal := fun l => ∑ k : Fin 2048, xin m c (ix2 r k) * win m c (ix2 k l)

/-- Device `c`'s logits, their rows' greatest entries and sums, and the two side by side. -/
def logits (c : Dev nD) : FVec Ideal S1024x16384 .f32 := V1 m c main_v1
def tops (c : Dev nD) : FVec Ideal S1024x1 .f32 := V1 m c main_v3
def masses (c : Dev nD) : FVec Ideal S1024x1 .f32 := V1 m c main_v8
def pairs (c : Dev nD) : FVec Ideal S1024x2 .f32 := V1 m c main_v9

theorem logits_eq (c : Dev nD) : logits m c = Host.dotGeneral dot_S1024x2048_S2048x16384_S1024x16384_1_0_0_1_n_n none (xin m c) (win m c) := by
  show StableHlo.after hostOps0 (V0 m c) (Proc.devRef .tc main_v1) = _
  after_results
  rfl
theorem tops_eq (c : Dev nD) : tops m c = broadcastInDim S1024x1 ![0] bcast_S1024_S1024x1_0
    (Host.reduce FloatOps.maximumf (logits m c) (constant S_ .f32 0xFF800000#32) reducesTo_S1024x16384_S1024_d1 h_S_) := by
  rw [logits_eq]
  show StableHlo.after hostOps0 (V0 m c) (Proc.devRef .tc main_v3) = _
  after_results
  rfl
theorem masses_eq (c : Dev nD) : masses m c = broadcastInDim S1024x1 ![0] bcast_S1024_S1024x1_0
    (Host.reduceAdd (Host.exp (subf (logits m c) (broadcastInDim S1024x16384 ![0, 1] bcast_S1024x1_S1024x16384_0_1 (tops m c)))) (constant S_ .f32 0x00000000#32)
      reducesTo_S1024x16384_S1024_d1 h_S_) := by
  rw [tops_eq, logits_eq]
  show StableHlo.after hostOps0 (V0 m c) (Proc.devRef .tc main_v8) = _
  after_results
  rfl
theorem pairs_eq (c : Dev nD) : pairs m c
    = concatenate S1024x2 1 [⟨S1024x1, tops m c⟩, ⟨S1024x1, masses m c⟩] concatenates_S1024x1_S1024x1_S1024x2_d1 := by
  rw [masses_eq, tops_eq, logits_eq]
  show StableHlo.after hostOps0 (V0 m c) (Proc.devRef .tc main_v9) = _
  after_results
  rfl

theorem logits_at (c : Dev nD) (r : Fin 1024) (l : Fin 16384) : logits m c (ix2 r l) = row m c r l := by
  rw [logits_eq, dot_pure]
  rfl
theorem logits_row (c : Dev nD) (r : Fin 1024) : (fun l => logits m c (ix2 r l)) = row m c r := funext fun l => logits_at m c r l
theorem tops_at (c : Dev nD) (r : Fin 1024) (l : Fin 1) : tops m c (ix2 r l) = top (row m c r) := by
  rw [tops_eq, top_pure, logits_row]
theorem masses_at (c : Dev nD) (r : Fin 1024) (l : Fin 1) : masses m c (ix2 r l) = massAt (row m c r) (top (row m c r)) := by
  rw [masses_eq, mass_pure, logits_row, tops_at]
theorem pairs_at (c : Dev nD) (r : Fin 1024) :
    pairs m c (ix2 r 0) = top (row m c r) ∧ pairs m c (ix2 r 1) = massAt (row m c r) (top (row m c r)) := by
  rw [pairs_eq, (pair_pure _ _ r).1, (pair_pure _ _ r).2]
  exact ⟨tops_at m c r 0, masses_at m c r 0⟩

/-! ## After the first call -/

/-- The calls' windows are the whole of what they read. -/
theorem read0 (f : FVec Ideal S1024x2 .f32) : ((cfg0.win 0).blk t0_0).view.read (Elt Ideal) f = f := by
  have e : win0_0.index t0_0 = ![0, 0] := by decide +kernel
  funext j
  exact congrArg f (by blk_ext [e])
theorem read1 (f : FVec Ideal S1024x1 .f32) : ((cfg1.win 0).blk t1_0).view.read (Elt Ideal) f = f := by
  have e : win1_0.index t1_0 = ![0, 0] := by decide +kernel
  funext j
  exact congrArg f (by blk_ext [e])
theorem read2 (f : FVec Ideal S1024x1 .f32) : ((cfg1.win 1).blk t1_0).view.read (Elt Ideal) f = f := by
  have e : win1_1.index t1_0 = ![0, 0] := by decide +kernel
  funext j
  exact congrArg f (by blk_ext [e])

theorem peer_pairs (c : Dev nD) : V2 m (outs1 m) c main_v10 = pairs m (peer c) := by
  rw [V2_v10]
  exact read0 (V1 m (peer c) main_v9)

/-- The merged bounds and the inverses of the merged sums. -/
def bounds (c : Dev nD) : FVec Ideal S1024x1 .f32 := V3 m (outs1 m) c main_v13
def inverses (c : Dev nD) : FVec Ideal S1024x1 .f32 := V3 m (outs1 m) c main_v22

/-- The peer's columns. -/
def peerTops (c : Dev nD) : FVec Ideal S1024x1 .f32 := extractStridedSlice S1024x1 ![0, 0] (pairs m (peer c)) slices_S1024x2_S1024x1_0_0
def peerMasses (c : Dev nD) : FVec Ideal S1024x1 .f32 := extractStridedSlice S1024x1 ![0, 1] (pairs m (peer c)) slices_S1024x2_S1024x1_0_1

theorem V2_v3 (c : Dev nD) : V2 m (outs1 m) c main_v3 = tops m c := V2_of m (outs1 m) c main_v3 (by decide)
theorem V2_v8 (c : Dev nD) : V2 m (outs1 m) c main_v8 = masses m c := V2_of m (outs1 m) c main_v8 (by decide)

theorem bounds_eq (c : Dev nD) : bounds m c = maximumf (tops m c) (peerTops m c) := by
  unfold peerTops
  rw [← peer_pairs, ← V2_v3]
  show StableHlo.after hostOps1 (V2 m (outs1 m) c) (Proc.devRef .tc main_v13) = _
  after_results
theorem inverses_eq (c : Dev nD) : inverses m c = Host.divf (broadcastInDim S1024x1 ![] bcast_S_S1024x1 (constant S_ .f32 0x3F800000#32))
    (addf (mulf (Host.exp (subf (tops m c) (bounds m c))) (masses m c)) (mulf (Host.exp (subf (peerTops m c) (bounds m c))) (peerMasses m c))) := by
  rw [bounds_eq]
  unfold peerTops peerMasses
  rw [← peer_pairs, ← V2_v3, ← V2_v8]
  show StableHlo.after hostOps1 (V2 m (outs1 m) c) (Proc.devRef .tc main_v22) = _
  after_results

theorem peerTops_at (c : Dev nD) (r : Fin 1024) (l : Fin 1) : peerTops m c (ix2 r l) = top (row m (peer c) r) :=
  (col0_pure _ r l).trans (pairs_at m (peer c) r).1
theorem peerMasses_at (c : Dev nD) (r : Fin 1024) (l : Fin 1) : peerMasses m c (ix2 r l) = massAt (row m (peer c) r) (top (row m (peer c) r)) :=
  (col1_pure _ r l).trans (pairs_at m (peer c) r).2
theorem bounds_at (c : Dev nD) (r : Fin 1024) (l : Fin 1) : bounds m c (ix2 r l) = bound (row m c r) (row m (peer c) r) := by
  rw [bounds_eq, bound_pure, tops_at, peerTops_at]
  rfl
theorem inverses_at (c : Dev nD) (r : Fin 1024) (l : Fin 1) : inverses m c (ix2 r l) = inverse (row m c r) (row m (peer c) r) := by
  rw [inverses_eq, inverse_pure, tops_at, masses_at, peerTops_at, peerMasses_at, bounds_at]
  rfl

/-! ## The result -/

theorem lg_eq (c : Dev nD) : lg m c = logits m c :=
  (V3_of m (outs1 m) c main_v1 (by decide)).trans (V2_of m (outs1 m) c main_v1 (by decide))
/-- Chunk `k` of what a device computes, at an index. -/
theorem Yk_at (c : Dev nD) (k : ℕ) (hk : k < 16) (r : Fin 64) (l : Fin 16384) (R : Fin 1024) (hR : R.val = 64 * k + r.val) :
    Yk m c k hk (ix2 r l) = Ideal.exp (row m c R l - bound (row m c R) (row m (peer c) R)) * inverse (row m c R) (row m (peer c) R) := by
  have a : (statRect k hk).emb (ix2 r 0) = ix2 R 0 := by
    funext x
    fin_cases x
    · exact Fin.ext (show 64 * k + 1 * r.val = R.val by omega)
    · exact Fin.ext (show 0 + 1 * 0 = 0 by omega)
  have b : (Rect.unit (s := S1024x16384) ![64 * k, 0] S64x16384.size (rows_inb k hk)).emb (ix2 r l) = ix2 R l := by
    funext x
    fin_cases x
    · exact Fin.ext (show 64 * k + 1 * r.val = R.val by omega)
    · exact Fin.ext (show 0 + 1 * l.val = l.val by omega)
  have hm : mRef.view.readAt (Elt Ideal) (statRect k hk).toLoadRect (mRef.view.rep (mst m c)) (ix2 r 0) = bound (row m c R) (row m (peer c) R) := by
    rw [View.readAt_rep, ← bounds_at m c R 0, ← a]
    exact congrFun (read1 (bounds m c)) _
  have hs : sRef.view.readAt (Elt Ideal) (statRect k hk).toLoadRect (sRef.view.rep (sst m c)) (ix2 r 0) = inverse (row m c R) (row m (peer c) R) := by
    rw [View.readAt_rep, ← inverses_at m c R 0, ← a]
    exact congrFun (read2 (inverses m c)) _
  have hl : (logitsRows k hk).view.read (Elt Ideal) (lg m c) (ix2 r l) = row m c R l := by
    rw [lg_eq, ← logits_at m c R l, ← b]
    rfl
  unfold Yk
  rw [scaled_at, hm, hs, hl]

/-- The result at an index: what the owner of the column's half computes. -/
theorem OUT_at (c : Dev nD) (R : Fin 1024) (J : Fin 32768) (d : Dev nD) (hd : owner c J.val = d) (l : Fin 16384) (hl : l.val = J.val % 16384) :
    OUT m c (ix2 R J) = Ideal.exp (row m d R l - bound (row m d R) (row m (peer d) R)) * inverse (row m d R) (row m (peer d) R) := by
  have hR := R.isLt
  have hk : R.val / 64 < 16 := by omega
  have e : inChunk (ix2 R J) = ix2 (⟨R.val % 64, Nat.mod_lt _ (by decide)⟩ : Fin 64) l := by
    funext x
    fin_cases x
    · rfl
    · exact Fin.ext hl.symm
  show Y m (owner c J.val) (R.val / 64) (inChunk (ix2 R J)) = _
  rw [hd, Y_eq m d _ hk, e]
  exact Yk_at m d _ hk _ l R (by show R.val = 64 * (R.val / 64) + R.val % 64; omega)

end Cert.KernelIdeal.Halves

end
-- ==== Proof.Whole.lean ====
module

public import proofs.«01_k».proof.ReferenceIdeal
public import proofs.«01_k».proof.Proof.Maths
public import Idealize.ShloMosaic.Lib.Pointwise
public import Idealize.ShloMosaic.Lib.Layout

@[expose] public section

noncomputable section

/-! The reference's value at an index, and how a device's block of the weights lies in the whole. -/

namespace Cert.ReferenceIdeal.Whole

open Idealize.ShloMosaic
open Cert.KernelIdeal.Halves (top massAt)

/-- A row of the whole logits. -/
def fullRow (x : FVec Ideal S1024x2048 .f32) (w : FVec Ideal S2048x32768 .f32) (r : Fin 1024) : Fin 32768 → EReal :=
  fun J => ∑ k : Fin 2048, x (ix2 r k) * w (ix2 k J)

/-- A device's block of the weights: the columns of its half. -/
theorem block_at {α : Type} (v : (⟨2, ![2048, 32768]⟩ : Shape).Idx → α) (c : Fin 4) (k : Fin 2048) (l : Fin 16384) (J : Fin 32768)
    (hJ : J.val = c.val % 2 * 16384 + l.val) :
    (Layout.blockN ⟨2, ![2048, 16384]⟩ ⟨2, ![2048, 32768]⟩ (Layout.meshBlock [2, 2] ![[], [1]] c) v : (⟨2, ![2048, 16384]⟩ : Shape).Idx → α) (ix2 k l) = v (ix2 k J) := by
  rw [Layout.blockN_apply]
  refine congrArg v (funext fun b => Fin.ext ?_)
  rw [Layout.TilesN.idx_val]
  fin_cases b
  · show 0 * 2048 + k.val = k.val
    omega
  · show (c.val / 1 % 2 * 1 + 0) * 16384 + l.val = J.val
    omega

variable [Facts]
open Facts₀ Facts

theorem dot_whole (x : FVec Ideal S1024x2048 .f32) (w : FVec Ideal S2048x32768 .f32) (r : Fin 1024) (J : Fin 32768) :
    Host.dotGeneral dot_S1024x2048_S2048x32768_S1024x32768_1_0_0_1_n_n none x w (ix2 r J) = fullRow x w r J := by
  unfold fullRow
  pointwise

/-- The softmax of given logits. -/
def softmax (L : FVec Ideal S1024x32768 .f32) : FVec Ideal S1024x32768 .f32 :=
  Host.divf (Host.exp (subf L (broadcastInDim S1024x32768 ![0, 1] bcast_S1024x1_S1024x32768_0_1 (broadcastInDim S1024x1 ![0] bcast_S1024_S1024x1_0
      (Host.reduce FloatOps.maximumf L (constant S_ .f32 0xFF800000#32) reducesTo_S1024x32768_S1024_d1 h_S_)))))
    (broadcastInDim S1024x32768 ![0, 1] bcast_S1024x1_S1024x32768_0_1 (broadcastInDim S1024x1 ![0] bcast_S1024_S1024x1_0
      (Host.reduceAdd (Host.exp (subf L (broadcastInDim S1024x32768 ![0, 1] bcast_S1024x1_S1024x32768_0_1 (broadcastInDim S1024x1 ![0] bcast_S1024_S1024x1_0
        (Host.reduce FloatOps.maximumf L (constant S_ .f32 0xFF800000#32) reducesTo_S1024x32768_S1024_d1 h_S_))))) (constant S_ .f32 0x00000000#32)
        reducesTo_S1024x32768_S1024_d1 h_S_)))

theorem neg_infinity : Ideal.ofBits .f32 0xFF800000#32 = ⊥ := by simp [Ideal.ofBits, Ideal.ieee]

theorem softmax_at (L : FVec Ideal S1024x32768 .f32) (r : Fin 1024) (J : Fin 32768) :
    softmax L (ix2 r J) = Ideal.div (Ideal.exp (L (ix2 r J) - top fun j => L (ix2 r j))) (massAt (fun j => L (ix2 r j)) (top fun j => L (ix2 r j))) := by
  unfold softmax massAt top
  pointwise
  simp only [neg_infinity]

/-- The reference at an index. -/
theorem whole_at (x : FVec Ideal S1024x2048 .f32) (w : FVec Ideal S2048x32768 .f32) (r : Fin 1024) (J : Fin 32768) :
    softmax (Host.dotGeneral dot_S1024x2048_S2048x32768_S1024x32768_1_0_0_1_n_n none x w) (ix2 r J)
      = Ideal.div (Ideal.exp (fullRow x w r J - top (fullRow x w r))) (massAt (fullRow x w r) (top (fullRow x w r))) := by
  rw [softmax_at, show (fun j => Host.dotGeneral dot_S1024x2048_S2048x32768_S1024x32768_1_0_0_1_n_n none x w (ix2 r j)) = fullRow x w r from funext (dot_whole x w r),
    dot_whole]

end Cert.ReferenceIdeal.Whole

end
-- ==== Proof.Finite.lean ====
module

public import proofs.«01_k».proof.Proof.Pure
public import proofs.«01_k».proof.Pre_finite_KernelIdeal
public import Idealize.ShloMosaic.Lib.ReduceAll

@[expose] public section

noncomputable section

/-! What the precondition says of the inputs: every entry is a real number. -/

namespace Cert.KernelIdeal.Halves

open Idealize.ShloMosaic

/-- A number whose magnitude is below infinity is real. -/
theorem real_of_lt (x : EReal) (h : max x (-x) < ⊤) : ∃ r : ℝ, x = r := by
  induction x using EReal.rec with
  | bot => simp at h
  | coe r => exact ⟨r, rfl⟩
  | top => simp at h

variable [Cert.Pre_finite_KernelIdeal.Facts]

/-- One entry's comparison. -/
theorem real_of_cmp {s : Shape} (h : (⟨0, ![]⟩ : Shape).BroadcastsInDim s (![] : Fin 0 → Fin s.rank)) (x : FVec Ideal s .f32) (i : s.Idx)
    (e : cmpf .olt (Host.absf x) (broadcastInDim s ![] h (constant (F := Ideal) ⟨0, ![]⟩ .f32 0x7F800000#32)) i = 1#1) : ∃ r : ℝ, x i = r := by
  apply real_of_lt
  have e' : Ideal.cmp .olt (max (x i) (-(x i))) (Ideal.ofBits .f32 0x7F800000#32) = 1#1 := e
  rw [ofBits_top] at e'
  by_contra hn
  simp [Ideal.cmp, hn] at e'

/-- The precondition's two halves. -/
theorem reals_of_finite (x : FVec Ideal ⟨2, ![1024, 2048]⟩ .f32) (w : FVec Ideal ⟨2, ![2048, 16384]⟩ .f32)
    (h : Cert.Pre_finite_KernelIdeal.fn x w = fun _ => 1#1) : (∀ i, ∃ r : ℝ, x i = r) ∧ ∀ i, ∃ r : ℝ, w i = r := by
  haveI : Subsingleton (Shape.Idx Cert.Pre_finite_KernelIdeal.S_) := ⟨fun a b => funext fun k => k.elim0⟩
  have h0 := congrFun h (fun k => k.elim0)
  obtain ⟨hx, hw⟩ : _ ∧ _ := IntOp.andi_eq_one.mp h0
  exact ⟨fun i => real_of_cmp _ x i (Host.reduce_andi_all _ _ _ _ _ hx i), fun i => real_of_cmp _ w i (Host.reduce_andi_all _ _ _ _ _ hw i)⟩

end Cert.KernelIdeal.Halves

end
-- ==== Proof.Result.lean ====
module

public import proofs.«01_k».proof.Proof.Values
public import proofs.«01_k».proof.Proof.Whole
public import proofs.«01_k».proof.Proof.Finite

@[expose] public section

noncomputable section

/-! The kernel's result is the reference's value. -/

namespace Cert.KernelIdeal.Halves

open Idealize.ShloMosaic Idealize.ShloMosaic.TcCoe
open Cert.ReferenceIdeal.Whole (fullRow softmax)

variable (m : (ℓ : Loc nD τ sig) → Buf (Elt Ideal) ℓ)
variable (x : FVec Ideal ⟨2, ![1024, 2048]⟩ .f32) (w : FVec Ideal ⟨2, ![2048, 32768]⟩ .f32)

/-- Every device holds the whole of the one input and its half's block of the other. -/
def Laid : Prop := ∀ c : Dev nD, xin m c = x ∧ win m c = Layout.blockN ⟨2, ![2048, 16384]⟩ ⟨2, ![2048, 32768]⟩ (Layout.meshBlock [2, 2] ![[], [1]] c) w

variable {m x w}

theorem x_real (h : Laid m x w) (hx : ∀ i, ∃ r : ℝ, xin m 0 i = r) : ∀ i, ∃ r : ℝ, x i = r := by
  rw [← (h 0).1]
  exact hx

theorem win_at (h : Laid m x w) (c : Dev nD) (k : Fin 2048) (l : Fin 16384) (J : Fin 32768) (hJ : J.val = c.val % 2 * 16384 + l.val) :
    win m c (ix2 k l) = w (ix2 k J) := by
  rw [(h c).2]
  exact Cert.ReferenceIdeal.Whole.block_at w c k l J hJ

/-- A device's row of logits is its half of the whole row. -/
theorem row_at (h : Laid m x w) (c : Dev nD) (r : Fin 1024) (l : Fin 16384) (J : Fin 32768) (hJ : J.val = c.val % 2 * 16384 + l.val) :
    row m c r l = fullRow x w r J := by
  unfold row fullRow
  exact Finset.sum_congr rfl fun k _ => by rw [(h c).1, win_at h c k l J hJ]

theorem row_lower (h : Laid m x w) (c : Dev nD) (hc : c.val % 2 = 0) (r : Fin 1024) :
    row m c r = fun l => fullRow x w r (Fin.castAdd 16384 l) :=
  funext fun l => row_at h c r l _ (by rw [hc]; show l.val = 0 * 16384 + l.val; omega)
theorem row_upper (h : Laid m x w) (c : Dev nD) (hc : c.val % 2 = 1) (r : Fin 1024) :
    row m c r = fun l => fullRow x w r (Fin.natAdd 16384 l) :=
  funext fun l => row_at h c r l _ (by rw [hc]; show 16384 + l.val = 1 * 16384 + l.val; omega)

theorem peer_half (c : Dev nD) : (peer c).val % 2 = 1 - c.val % 2 := by revert c; decide
theorem owner_half (c : Dev nD) (j : ℕ) (hj : j < 32768) : (owner c j).val % 2 = j / 16384 := by
  unfold owner
  split
  · omega
  · rw [peer_half]
    omega

/-- The whole row is made of real numbers where the blocks are. -/
theorem fullRow_real (h : Laid m x w) (hx : ∀ i, ∃ r : ℝ, x i = r) (hw : ∀ c : Dev nD, ∀ i, ∃ r : ℝ, win m c i = r) (r : Fin 1024) (J : Fin 32768) :
    ∃ a : ℝ, fullRow x w r J = a := by
  refine dot_real _ _ (fun k => hx _) (fun k => ?_)
  have hJ := J.isLt
  rw [← win_at h (owner 0 J.val) k ⟨J.val % 16384, Nat.mod_lt _ (by decide)⟩ J (by
    rw [owner_half 0 J.val hJ]; show J.val = J.val / 16384 * 16384 + J.val % 16384; omega)]
  exact hw _ _

/-- The kernel's result at an index. -/
theorem OUT_value (h : Laid m x w) (hx : ∀ i, ∃ r : ℝ, x i = r) (hw : ∀ c : Dev nD, ∀ i, ∃ r : ℝ, win m c i = r) (c : Dev nD) (r : Fin 1024) (J : Fin 32768) :
    OUT m c (ix2 r J) = Ideal.div (Ideal.exp (fullRow x w r J - top (fullRow x w r))) (massAt (fullRow x w r) (top (fullRow x w r))) := by
  have hJ := J.isLt
  have hd := owner_half c J.val hJ
  rw [OUT_at m c r J (owner c J.val) rfl ⟨J.val % 16384, Nat.mod_lt _ (by decide)⟩ rfl,
    row_at h (owner c J.val) r ⟨J.val % 16384, Nat.mod_lt _ (by decide)⟩ J (by
      rw [hd]; show J.val = J.val / 16384 * 16384 + J.val % 16384; omega)]
  refine row_of_halves (n := 16384) (fullRow x w r) (fullRow_real h hx hw r) _ _ ?_ _
  have hp := peer_half (owner c J.val)
  rcases (show (owner c J.val).val % 2 = 0 ∨ (owner c J.val).val % 2 = 1 by omega) with e | e
  · exact Or.inl ⟨row_lower h _ e r, row_upper h _ (by omega) r⟩
  · exact Or.inr ⟨row_upper h _ e r, row_lower h _ (by omega) r⟩

variable [Cert.ReferenceIdeal.Facts]

/-- The kernel's result. -/
theorem OUT_eq (h : Laid m x w) (hx : ∀ i, ∃ r : ℝ, x i = r) (hw : ∀ c : Dev nD, ∀ i, ∃ r : ℝ, win m c i = r) (c : Dev nD) :
    OUT m c = softmax (Host.dotGeneral Cert.ReferenceIdeal.dot_S1024x2048_S2048x32768_S1024x32768_1_0_0_1_n_n none x w) := by
  refine funext fun i : S1024x32768.Idx => ?_
  obtain ⟨r, J, rfl⟩ : ∃ (r : Fin 1024) (J : Fin 32768), i = ix2 r J := ⟨i 0, i 1, eq_ix2 i⟩
  rw [OUT_value h hx hw c r J]
  exact (Cert.ReferenceIdeal.Whole.whole_at x w r J).symm

end Cert.KernelIdeal.Halves

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Result
public import Idealize.ShloMosaic.Adequacy
public import Idealize.ShloMosaic.Init

@[expose] public section

noncomputable section

namespace Cert.Proof

open Idealize.ShloMosaic Idealize.SL.Sem Cert.Kernel

set_option maxRecDepth 100000

open Cert.KernelIdeal.Halves in
/-- The run with the result's contents left out: the frame of either program, whose texts are one. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main m ρ)

/-- The two programs call the same bodies. -/
theorem bodies_eq : Cert.Kernel.defs₀ (F := Bits) = Cert.KernelIdeal.defs₀ (F := Bits) := by
  unfold Cert.Kernel.defs₀ Cert.KernelIdeal.defs₀
  refine congrArg Defs.onTc ?_
  funext l a
  revert a
  match l with
  | 0 => intro a; rfl
  | 1 => intro a; rfl
theorem defs_eq : Cert.Kernel.defs (F := Bits) = Cert.KernelIdeal.defs (F := Bits) :=
  congrArg (Pipeline.defs (Cert.Kernel.pcfgs (F := Bits))) bodies_eq

theorem frame_kernel : Cert.quiescent_Kernel := fun m ρ _ => by
  have h := run_kept (F := Bits) m ρ
  rw [← defs_eq] at h
  exact h
theorem frame_ideal : Cert.quiescent_KernelIdeal := fun m ρ _ => run_kept (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

open Cert.KernelIdeal.Halves in
/-- The kernel's result is the reference's value, for finite inputs. -/
theorem values : Cert.algebraic_KernelIdeal_ReferenceIdeal_pre_finite_KernelIdeal := fun m ρ m' ρ' hfin hin => by
  have fin := fun c => reals_of_finite _ _ (hfin c)
  have laid : Laid m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := hin
  have real := x_real laid (fin 0).1
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.2.trans ?_, (h.1 c).1, (h.1 c).2.1⟩) (run_main (F := Ideal) m ρ)
  exact OUT_eq laid real (fun c => (fin c).2) c

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_kernel, frame_ideal, fun m ρ _ => frame_ideal m ρ trivial, frame_reference, fun m ρ _ => frame_reference m ρ trivial, trivial, values⟩

end Cert.Proof

end
